-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 384]⟩ ⟨2, ![3072, 384]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x384 : Shape := ⟨2, ![768, 384]⟩
abbrev S384x768 : Shape := ⟨2, ![384, 768]⟩
abbrev S3072x768 : Shape := ⟨2, ![3072, 768]⟩
abbrev S4x768x384 : Shape := ⟨3, ![4, 768, 384]⟩
abbrev S3 : Shape := ⟨1, ![3]⟩
abbrev S4 : Shape := ⟨1, ![4]⟩
abbrev S_ : Shape := ⟨0, ![]⟩
abbrev S1x768x384 : Shape := ⟨3, ![1, 768, 384]⟩
abbrev S1 : Shape := ⟨1, ![1]⟩
abbrev S768x768 : Shape := ⟨2, ![768, 768]⟩

abbrev nBuf : Space → Nat
  | .hbm => 3
  | .vmem => 4
  | .smem => 0
  | _ => 0

abbrev bufTy : (tb : Table) → Fin (tcTables nBuf tb) → BufTy
  | .hbm, ⟨0, _⟩ => ⟨S768x384, .bf16⟩
  | .hbm, ⟨1, _⟩ => ⟨S384x768, .bf16⟩
  | .hbm, ⟨2, _⟩ => ⟨S3072x768, .bf16⟩
  | .local _ .vmem, ⟨0, _⟩ => ⟨S768x384, .bf16⟩
  | .local _ .vmem, ⟨1, _⟩ => ⟨S384x768, .bf16⟩
  | .local _ .vmem, ⟨2, _⟩ => ⟨S3072x768, .bf16⟩
  | .local _ .vmem, ⟨3, _⟩ => ⟨S4x768x384, .bf16⟩
  | _, _ => ⟨S768x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v45 : Index := Scalar.indexCast v2
  let c0_29 : Index := 0#32
  let c0_30 : Index := 0#32
  ![v45.toNat, 0, 0]
def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_41 : BitVec 32 := 0#32
  let c0_i32_42 : BitVec 32 := 0#32
  ![v2.toNat, 0, 0]
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v49 : BitVec 32 := Scalar.addi v2 c1_i32_31
  let c4_i32_32 : BitVec 32 := 4#32
  let c0_i32_33 : BitVec 32 := 0#32
  let v50 : BitVec 1 := Scalar.cmpi .eq c4_i32_32 c0_i32_33
  let c1_i32_34 : BitVec 32 := 1#32
  let v51 : BitVec 32 := Scalar.select v50 c1_i32_34 c4_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c1_i32_39 : BitVec 32 := 1#32
  let v60 : BitVec 32 := Scalar.muli v59 c1_i32_39
  let v61 : BitVec 32 := Scalar.addi c0_i32_40 v60
  v61.toNat
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_45 : BitVec 32 := 2#32
  let v70 : BitVec 32 := Scalar.addi v2 c2_i32_45
  let c4_i32_46 : BitVec 32 := 4#32
  let c0_i32_47 : BitVec 32 := 0#32
  let v71 : BitVec 1 := Scalar.cmpi .eq c4_i32_46 c0_i32_47
  let c1_i32_48 : BitVec 32 := 1#32
  let v72 : BitVec 32 := Scalar.select v71 c1_i32_48 c4_i32_46
  let v73 : BitVec 32 := Scalar.remsi v70 v72
  let c0_i32_50 : BitVec 32 := 0#32
  let v75 : BitVec 1 := Scalar.cmpi .slt v73 c0_i32_50
  let c0_i32_51 : BitVec 32 := 0#32
  let v76 : BitVec 1 := Scalar.cmpi .slt v72 c0_i32_51
  let v77 : BitVec 1 := Scalar.xori v75 v76
  let c0_i32_49 : BitVec 32 := 0#32
  let v74 : BitVec 1 := Scalar.cmpi .ne v73 c0_i32_49
  let v78 : BitVec 1 := Scalar.andi v77 v74
  let v79 : BitVec 32 := Scalar.addi v73 v72
  let v80 : BitVec 32 := Scalar.select v78 v79 v73
  let c1_i32_53 : BitVec 32 := 1#32
  let v81 : BitVec 32 := Scalar.muli v80 c1_i32_53
  let v82 : BitVec 32 := Scalar.addi c0_i32_54 v81
  v82.toNat
def k0_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_59 : BitVec 32 := 3#32
  let v91 : BitVec 32 := Scalar.addi v2 c3_i32_59
  let c4_i32_60 : BitVec 32 := 4#32
  let c0_i32_61 : BitVec 32 := 0#32
  let v92 : BitVec 1 := Scalar.cmpi .eq c4_i32_60 c0_i32_61
  let c1_i32_62 : BitVec 32 := 1#32
  let v93 : BitVec 32 := Scalar.select v92 c1_i32_62 c4_i32_60
  let v94 : BitVec 32 := Scalar.remsi v91 v93
  let c0_i32_64 : BitVec 32 := 0#32
  let v96 : BitVec 1 := Scalar.cmpi .slt v94 c0_i32_64
  let c0_i32_65 : BitVec 32 := 0#32
  let v97 : BitVec 1 := Scalar.cmpi .slt v93 c0_i32_65
  let v98 : BitVec 1 := Scalar.xori v96 v97
  let c0_i32_63 : BitVec 32 := 0#32
  let v95 : BitVec 1 := Scalar.cmpi .ne v94 c0_i32_63
  let v99 : BitVec 1 := Scalar.andi v98 v95
  let v100 : BitVec 32 := Scalar.addi v94 v93
  let v101 : BitVec 32 := Scalar.select v99 v100 v94
  let c1_i32_67 : BitVec 32 := 1#32
  let v102 : BitVec 32 := Scalar.muli v101 c1_i32_67
  let v103 : BitVec 32 := Scalar.addi c0_i32_68 v102
  v103.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32 : BitVec 32 := 768#32
  let v116 : BitVec 32 := Scalar.muli v2 c768_i32
  let v117 : Index := Scalar.indexCast v116
  let c0_75 : Index := 0#32
  ![v117.toNat, 0]
def k0_off5 (d0 : Dev nD) (c1_i32_76 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v119 : BitVec 32 := Scalar.addi v2 c1_i32_76
  let c4_i32_77 : BitVec 32 := 4#32
  let c0_i32_78 : BitVec 32 := 0#32
  let v120 : BitVec 1 := Scalar.cmpi .eq c4_i32_77 c0_i32_78
  let c1_i32_79 : BitVec 32 := 1#32
  let v121 : BitVec 32 := Scalar.select v120 c1_i32_79 c4_i32_77
  let v122 : BitVec 32 := Scalar.remsi v119 v121
  let c0_i32_81 : BitVec 32 := 0#32
  let v124 : BitVec 1 := Scalar.cmpi .slt v122 c0_i32_81
  let c0_i32_82 : BitVec 32 := 0#32
  let v125 : BitVec 1 := Scalar.cmpi .slt v121 c0_i32_82
  let v126 : BitVec 1 := Scalar.xori v124 v125
  let c0_i32_80 : BitVec 32 := 0#32
  let v123 : BitVec 1 := Scalar.cmpi .ne v122 c0_i32_80
  let v127 : BitVec 1 := Scalar.andi v126 v123
  let v128 : BitVec 32 := Scalar.addi v122 v121
  let v129 : BitVec 32 := Scalar.select v127 v128 v122
  ![v129.toNat]
def k0_off6 (d0 : Dev nD) (c1_i32_76 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v119 : BitVec 32 := Scalar.addi v2 c1_i32_76
  let c4_i32_77 : BitVec 32 := 4#32
  let c0_i32_78 : BitVec 32 := 0#32
  let v120 : BitVec 1 := Scalar.cmpi .eq c4_i32_77 c0_i32_78
  let c1_i32_79 : BitVec 32 := 1#32
  let v121 : BitVec 32 := Scalar.select v120 c1_i32_79 c4_i32_77
  let v122 : BitVec 32 := Scalar.remsi v119 v121
  let c0_i32_81 : BitVec 32 := 0#32
  let v124 : BitVec 1 := Scalar.cmpi .slt v122 c0_i32_81
  let c0_i32_82 : BitVec 32 := 0#32
  let v125 : BitVec 1 := Scalar.cmpi .slt v121 c0_i32_82
  let v126 : BitVec 1 := Scalar.xori v124 v125
  let c0_i32_80 : BitVec 32 := 0#32
  let v123 : BitVec 1 := Scalar.cmpi .ne v122 c0_i32_80
  let v127 : BitVec 1 := Scalar.andi v126 v123
  let v128 : BitVec 32 := Scalar.addi v122 v121
  let v129 : BitVec 32 := Scalar.select v127 v128 v122
  let c0_i32_86 : BitVec 32 := 0#32
  let c0_i32_87 : BitVec 32 := 0#32
  ![v129.toNat, 0, 0]
def k0_off7 (d0 : Dev nD) (c1_i32_76 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v119 : BitVec 32 := Scalar.addi v2 c1_i32_76
  let c4_i32_77 : BitVec 32 := 4#32
  let c0_i32_78 : BitVec 32 := 0#32
  let v120 : BitVec 1 := Scalar.cmpi .eq c4_i32_77 c0_i32_78
  let c1_i32_79 : BitVec 32 := 1#32
  let v121 : BitVec 32 := Scalar.select v120 c1_i32_79 c4_i32_77
  let v122 : BitVec 32 := Scalar.remsi v119 v121
  let c0_i32_81 : BitVec 32 := 0#32
  let v124 : BitVec 1 := Scalar.cmpi .slt v122 c0_i32_81
  let c0_i32_82 : BitVec 32 := 0#32
  let v125 : BitVec 1 := Scalar.cmpi .slt v121 c0_i32_82
  let v126 : BitVec 1 := Scalar.xori v124 v125
  let c0_i32_80 : BitVec 32 := 0#32
  let v123 : BitVec 1 := Scalar.cmpi .ne v122 c0_i32_80
  let v127 : BitVec 1 := Scalar.andi v126 v123
  let v128 : BitVec 32 := Scalar.addi v122 v121
  let v129 : BitVec 32 := Scalar.select v127 v128 v122
  let v138 : Index := Scalar.indexCast v129
  let c0_90 : Index := 0#32
  let c0_91 : Index := 0#32
  ![v138.toNat, 0, 0]
def k0_off8 (d0 : Dev nD) (c1_i32_76 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v119 : BitVec 32 := Scalar.addi v2 c1_i32_76
  let c4_i32_77 : BitVec 32 := 4#32
  let c0_i32_78 : BitVec 32 := 0#32
  let v120 : BitVec 1 := Scalar.cmpi .eq c4_i32_77 c0_i32_78
  let c1_i32_79 : BitVec 32 := 1#32
  let v121 : BitVec 32 := Scalar.select v120 c1_i32_79 c4_i32_77
  let v122 : BitVec 32 := Scalar.remsi v119 v121
  let c0_i32_81 : BitVec 32 := 0#32
  let v124 : BitVec 1 := Scalar.cmpi .slt v122 c0_i32_81
  let c0_i32_82 : BitVec 32 := 0#32
  let v125 : BitVec 1 := Scalar.cmpi .slt v121 c0_i32_82
  let v126 : BitVec 1 := Scalar.xori v124 v125
  let c0_i32_80 : BitVec 32 := 0#32
  let v123 : BitVec 1 := Scalar.cmpi .ne v122 c0_i32_80
  let v127 : BitVec 1 := Scalar.andi v126 v123
  let v128 : BitVec 32 := Scalar.addi v122 v121
  let v129 : BitVec 32 := Scalar.select v127 v128 v122
  let c768_i32_93 : BitVec 32 := 768#32
  let v143 : BitVec 32 := Scalar.muli v129 c768_i32_93
  let v144 : Index := Scalar.indexCast v143
  let c0_94 : Index := 0#32
  ![v144.toNat, 0]
abbrev stage0_0 : Fin 1 → Memref sig .tc .vmem S768x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S3072x384 : Shape := ⟨2, ![3072, 384]⟩
abbrev S384x768 : Shape := ⟨2, ![384, 768]⟩
abbrev S3072x768 : Shape := ⟨2, ![3072, 768]⟩

abbrev nBuf : Space → Nat
  | .hbm => 4
  | .vmem => 0
  | .smem => 0
  | _ => 0

abbrev bufTy : (tb : Table) → Fin (tcTables nBuf tb) → BufTy
  | .hbm, ⟨0, _⟩ => ⟨S3072x384, .bf16⟩
  | .hbm, ⟨1, _⟩ => ⟨S384x768, .bf16⟩
  | .hbm, ⟨2, _⟩ => ⟨S3072x768, .f32⟩
  | .hbm, ⟨3, _⟩ => ⟨S3072x768, .bf16⟩
  | _, _ => ⟨S3072x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Slots.lean ====
/-
  The geometry of the gather: the ring of four devices, the four slots of the exchange buffer (one 768 × 384 block of
  `A` per device), the four blocks of rows of the result, and what the loads and stores of one slot or one block of
  rows read and leave. Nothing here speaks of an execution: only indices, rectangles and contents.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Value
public import Idealize.ShloMosaic.Lib.ValueIdxCore
public import Idealize.ShloMosaic.Lib.Tactic

@[expose] public section

noncomputable section

namespace Cert.Gather

open Cert.KernelIdeal Cert.KernelIdeal.Gen
open Idealize.ShloMosaic Idealize.ShloMosaic.TcCoe
open Idealize.ShloMosaic.ValueIdx (ix2 ix3 eq_ix2 eq_ix3)

variable {F : FTy → Type} [FloatOps F]

/-! ## The ring of devices -/

set_option backward.proofsInPublic true in
/-- The device `j + 1` places after `c` in the ring of four. -/
def sh (j : Fin 3) (c : Dev nD) : Dev nD := ⟨(c.val + (j.val + 1)) % 4, Nat.mod_lt _ (by decide)⟩

/-- A peer is another device. -/
theorem sh_ne (j : Fin 3) (c : Dev nD) : sh j c ≠ c := by revert j c; decide
/-- A device and its three peers are four different devices. -/
theorem dev_nodup (c : Dev nD) : [c, sh 0 c, sh 1 c, sh 2 c].Nodup := by revert c; decide
/-- The four devices are a device and its three peers. -/
theorem dev_univ (c : Dev nD) : (Finset.univ : Finset (Dev nD)) = [c, sh 0 c, sh 1 c, sh 2 c].toFinset := by revert c; decide
/-- Every device is a given one or one of its three peers. -/
theorem dev_mem (c d : Dev nD) : d ∈ [c, sh 0 c, sh 1 c, sh 2 c] := by revert c d; decide
/-- The three peers of a device are different devices. -/
theorem peer_nodup (c : Dev nD) : [sh 0 c, sh 1 c, sh 2 c].Nodup := by revert c; decide
/-- The devices other than `c` are its three peers. -/
theorem peers_eq (c : Dev nD) : (Finset.univ.erase c : Finset (Dev nD)) = [sh 0 c, sh 1 c, sh 2 c].toFinset := by
  revert c; decide

/-! ## The program's device numbers and offsets, as shifts of the device's own -/

/-- The first signal goes one place on. -/
theorem dev1_eq (c : Dev nD) : (⟨k0_dev1 c, k0_dev1_lt c⟩ : Dev nD) = sh 0 c := by revert c; decide +kernel
/-- The second signal goes two places on. -/
theorem dev2_eq (c : Dev nD) : (⟨k0_dev2 c, k0_dev2_lt c⟩ : Dev nD) = sh 1 c := by revert c; decide +kernel
/-- The third signal goes three places on. -/
theorem dev3_eq (c : Dev nD) : (⟨k0_dev3 c, k0_dev3_lt c⟩ : Dev nD) = sh 2 c := by revert c; decide +kernel
/-- The first copy goes one place on. -/
theorem dev4_eq (c : Dev nD) : (⟨k0_dev4 c, k0_dev4_lt c⟩ : Dev nD) = sh 0 c := by revert c; decide +kernel
/-- The second copy goes two places on. -/
theorem dev5_eq (c : Dev nD) : (⟨k0_dev5 c, k0_dev5_lt c⟩ : Dev nD) = sh 1 c := by revert c; decide +kernel
/-- The third copy goes three places on. -/
theorem dev6_eq (c : Dev nD) : (⟨k0_dev6 c, k0_dev6_lt c⟩ : Dev nD) = sh 2 c := by revert c; decide +kernel

/-- The slot a device stores its own block into is the slot its transfers read. -/
theorem off1_eq (c : Dev nD) : k0_off1 c = k0_off3 c := by rw [k0_off1_eq, k0_off3_eq]
/-- The receive semaphore that a device waits on for its peer `j + 1` places on is that peer's. -/
theorem off5_eq (c : Dev nD) (j : Fin 3) : k0_off5 c (BitVec.ofNat 32 (1 + j.val)) = k0_off2 (sh j c) := by
  revert c j; decide +kernel
/-- The slot that a receive wait names is the slot of the peer it waits for. -/
theorem off6_eq (c : Dev nD) (j : Fin 3) : k0_off6 c (BitVec.ofNat 32 (1 + j.val)) = k0_off3 (sh j c) := by
  revert c j; decide +kernel
/-- The slot loaded after that wait is the same slot. -/
theorem off7_eq (c : Dev nD) (j : Fin 3) : k0_off7 c (BitVec.ofNat 32 (1 + j.val)) = k0_off3 (sh j c) := by
  revert c j; decide +kernel
/-- The rows stored then are the rows of that peer's block. -/
theorem off8_eq (c : Dev nD) (j : Fin 3) : k0_off8 c (BitVec.ofNat 32 (1 + j.val)) = k0_off4 (sh j c) := by
  revert c j; decide +kernel

/-! ## The slots of the exchange buffer -/

/-- The buffer that the block of `A` is staged in. -/
abbrev aM : Memref sig .tc .vmem S768x384 .bf16 := Memref.whole cc0_stg0_0
/-- The buffer that `B` is staged in. -/
abbrev bM : Memref sig .tc .vmem S384x768 .bf16 := Memref.whole cc0_stg1_0
/-- The buffer that the result is staged in. -/
abbrev oM : Memref sig .tc .vmem S3072x768 .bf16 := Memref.whole cc0_stg2_0
/-- The exchange buffer, of four slots. -/
abbrev cM : Memref sig .tc .vmem S4x768x384 .bf16 := Memref.whole cc0_scratch0

/-- Slot `o` of the exchange buffer as a rectangle. -/
abbrev slotR (o : Dev nD) : Rect S4x768x384 := Rect.unit (s := S4x768x384) (k0_off3 o) S1x768x384.size (k0_off3_inb o)
/-- Slot `o` as the transfers name it: a matrix. -/
abbrev slotM (o : Dev nD) : Memref sig .tc .vmem S768x384 .bf16 :=
  ((cM : Memref sig .tc .vmem S4x768x384 .bf16).slice (slotR o) (fun _ => rfl)).squeeze S768x384 squeezes_S1x768x384_S768x384

/-- The elements of slot `o`. -/
def slotSet (o : Dev nD) : Finset S4x768x384.Idx := (slotR o).set

/-- The matrix named by the transfers has the elements of slot `o`. -/
theorem slotM_set (o : Dev nD) : (slotM o).view.set = slotSet o := by
  exact (View.set_reshape _ _).trans (View.set_slice_whole _ _)

/-- A load or store of slot `o` touches the elements of slot `o`. -/
theorem slotAcc_set (o : Dev nD) : ((cM : Memref sig .tc .vmem S4x768x384 .bf16).access (slotR o) : View sig .tc _ _ _).set = slotSet o :=
  View.set_slice_whole _ _

/-- An element of slot `o` has first coordinate `o`. -/
theorem slot_fst {o : Dev nD} {i : S4x768x384.Idx} (h : i ∈ slotSet o) : (i 0).val = o.val := by
  have h0 := (Rect.mem_set_unit.mp h) 0
  rw [k0_off3_eq] at h0
  have h1 : o.val ≤ (i 0).val := h0.1
  have h2 : (i 0).val < o.val + 1 := h0.2
  omega

/-- Different slots have no element in common. -/
theorem slot_disj (o o' : Dev nD) (h : o ≠ o') : Disjoint (slotSet o) (slotSet o') :=
  Finset.disjoint_left.mpr fun i hi hi' => h (Fin.ext ((slot_fst hi).symm.trans (slot_fst hi')))

/-- The exchange buffer's contents with the block `x` in every slot: what a slot that holds `x` agrees with. -/
def slotC (x : S768x384.Idx → Elt F .bf16) : S4x768x384.Idx → Elt F .bf16 := fun i => k0_pay2 x (ix3 0 (i 1) (i 2))

/-- A slot that holds `x`, loaded: `x` with a leading axis of length one. -/
theorem slot_read (o : Dev nD) (x : S768x384.Idx → Elt F .bf16) :
    ((cM : Memref sig .tc .vmem S4x768x384 .bf16).access (slotR o) : View sig .tc _ _ _).read (Elt F) (slotC x) = k0_pay2 x := by
  funext y
  show k0_pay2 x (ix3 0 ((slotR o).emb y 1) ((slotR o).emb y 2)) = k0_pay2 x y
  refine congrArg _ (funext fun a => Fin.ext ?_)
  match a with
  | ⟨0, _⟩ =>
    have : (y 0).val < 1 := (y 0).isLt
    show 0 = (y 0).val
    omega
  | ⟨1, _⟩ => show (k0_off3 o) 1 + 1 * (y 1).val = (y 1).val; rw [k0_off3_eq]; show 0 + 1 * _ = _; omega
  | ⟨2, _⟩ => show (k0_off3 o) 2 + 1 * (y 2).val = (y 2).val; rw [k0_off3_eq]; show 0 + 1 * _ = _; omega

/-- Storing `x` into slot `o` leaves the slot holding `x`. -/
theorem slot_store (o : Dev nD) (x : S768x384.Idx → Elt F .bf16) (f : S4x768x384.Idx → Elt F .bf16) :
    ∀ i ∈ slotSet o, ((cM : Memref sig .tc .vmem S4x768x384 .bf16).access (slotR o) : View sig .tc _ _ _).write (Elt F) f (k0_pay2 x) Finset.univ i
      = slotC x i := by
  intro i hi
  rw [← slot_read o x, View.write_read_eq_piecewise]
  exact Finset.piecewise_eq_of_mem _ _ _ (by rw [← slotAcc_set o] at hi; exact hi)

/-- A transfer from a slot that holds `x` leaves the slot it lands in holding `x`. -/
theorem slot_land (o : Dev nD) (x : S768x384.Idx → Elt F .bf16) (f : S4x768x384.Idx → Elt F .bf16) :
    ∀ i ∈ (slotM o).view.set, (slotM o).view.write (Elt F) f ((slotM o).view.read (Elt F) (slotC x)) Finset.univ i = slotC x i := by
  intro i hi
  rw [View.write_read_eq_piecewise]
  exact Finset.piecewise_eq_of_mem _ _ _ hi

/-! ## The result -/

/-- The block of 768 rows of the product computed from device `o`'s block of `A`. -/
def rows (x : S768x384.Idx → Elt F .bf16) (b : S384x768.Idx → Elt F .bf16) : S768x768.Idx → Elt F .bf16 :=
  k0_pay5 (k0_pay3 b) (k0_pay2 x)

/-- The block a device computes from its own rows, before any transfer has come in, is the same function of them. -/
theorem own_rows (x : S768x384.Idx → Elt F .bf16) (b : S384x768.Idx → Elt F .bf16) : k0_pay4 (k0_pay1 x) b = rows x b := by
  unfold rows k0_pay4 k0_pay5 k0_pay2
  simp only [Idealize.ShloMosaic.shapeCast_shapeCast]

/-- The rows of the result that device `o`'s block of `A` gives, as a rectangle. -/
abbrev outR (o : Dev nD) : Rect S3072x768 := Rect.unit (s := S3072x768) (k0_off4 o) S768x768.size (k0_off4_inb o)

/-- The elements of those rows. -/
def outSet (o : Dev nD) : Finset S3072x768.Idx := (outR o).set

set_option backward.proofsInPublic true in
/-- The result every device is to hold: row `i` comes from the block of `A` of device `i / 768`. -/
def outG (xs : Dev nD → S768x384.Idx → Elt F .bf16) (b : S384x768.Idx → Elt F .bf16) : S3072x768.Idx → Elt F .bf16 :=
  fun i => rows (xs ⟨(i 0).val / 768, Nat.div_lt_of_lt_mul (i 0).isLt⟩) b
    (ix2 ⟨(i 0).val % 768, Nat.mod_lt _ (by decide)⟩ (i 1))

/-- An element in the range of rows of block `o` is in block `o`. -/
theorem mem_outSet (o : Dev nD) (i : S3072x768.Idx) (h : (i 0).val / 768 = o.val) : i ∈ outSet o := by
  refine Rect.mem_set_unit.mpr fun a => ?_
  rw [k0_off4_eq]
  match a with
  | ⟨0, _⟩ =>
    show 768 * o.val ≤ (i 0).val ∧ (i 0).val < 768 * o.val + 768
    omega
  | ⟨1, _⟩ =>
    have : (i 1).val < 768 := (i 1).isLt
    show 0 ≤ (i 1).val ∧ (i 1).val < 0 + 768
    omega

/-- Every element is in the block of a device: of `c` or of one of its peers. -/
theorem out_cover (c : Dev nD) (i : S3072x768.Idx) :
    i ∈ outSet c ∨ i ∈ outSet (sh 0 c) ∨ i ∈ outSet (sh 1 c) ∨ i ∈ outSet (sh 2 c) := by
  have hi : (i 0).val / 768 < nD := Nat.div_lt_of_lt_mul (i 0).isLt
  have h := dev_mem c ⟨(i 0).val / 768, hi⟩
  have hm := mem_outSet ⟨(i 0).val / 768, hi⟩ i rfl
  simp only [List.mem_cons, List.not_mem_nil, or_false] at h
  rcases h with h | h | h | h <;> rw [h] at hm <;> simp only [hm, true_or, or_true]

/-- A store of the rows of block `o` touches those rows of the result. -/
theorem outAcc_set (o : Dev nD) : ((oM : Memref sig .tc .vmem S3072x768 .bf16).access (outR o) : View sig .tc _ _ _).set = outSet o :=
  View.set_slice_whole _ _

/-- The result's rows of block `o` are the block computed from device `o`'s block of `A`. -/
theorem out_read (xs : Dev nD → S768x384.Idx → Elt F .bf16) (b : S384x768.Idx → Elt F .bf16) (o : Dev nD) :
    ((oM : Memref sig .tc .vmem S3072x768 .bf16).access (outR o) : View sig .tc _ _ _).read (Elt F)
      (outG xs b) = rows (xs o) b := by
  funext y
  have hy0 : (y 0).val < 768 := (y 0).isLt
  have e0 : (((outR o).emb y) 0).val = 768 * o.val + (y 0).val := by
    show (k0_off4 o) 0 + 1 * (y 0).val = _; rw [k0_off4_eq]; show 768 * o.val + 1 * _ = _; omega
  have e1 : (((outR o).emb y) 1).val = (y 1).val := by
    show (k0_off4 o) 1 + 1 * (y 1).val = _; rw [k0_off4_eq]; show 0 + 1 * _ = _; omega
  show outG xs b ((outR o).emb y) = rows (xs o) b y
  unfold outG
  have ho : (⟨(((outR o).emb y) 0).val / 768, Nat.div_lt_of_lt_mul (((outR o).emb y) 0).isLt⟩ : Dev nD) = o :=
    Fin.ext (by show (((outR o).emb y) 0).val / 768 = o.val; rw [e0]; omega)
  rw [ho]
  refine congrArg _ (funext fun a => Fin.ext ?_)
  match a with
  | ⟨0, _⟩ => show (((outR o).emb y) 0).val % 768 = (y 0).val; rw [e0]; omega
  | ⟨1, _⟩ => exact e1

/-- Storing the block computed from device `o`'s block of `A` puts the result in the rows of block `o`, and leaves the
    other rows as they were. -/
theorem out_store (xs : Dev nD → S768x384.Idx → Elt F .bf16) (b : S384x768.Idx → Elt F .bf16) (o : Dev nD)
    (f : S3072x768.Idx → Elt F .bf16) :
    ((oM : Memref sig .tc .vmem S3072x768 .bf16).access (outR o) : View sig .tc _ _ _).write (Elt F) f (rows (xs o) b) Finset.univ
      = (outSet o).piecewise (outG xs b) f := by
  rw [← out_read xs b o, View.write_read_eq_piecewise]
  exact congrArg (fun s : Finset S3072x768.Idx => s.piecewise (outG xs b) f) (outAcc_set o)

/-- Once the four blocks have been put in place the buffer holds the result, whatever it held before. -/
theorem out_all (c : Dev nD) (G f : S3072x768.Idx → Elt F .bf16) :
    (outSet (sh 1 c)).piecewise G ((outSet (sh 2 c)).piecewise G ((outSet (sh 0 c)).piecewise G ((outSet c).piecewise G f))) = G := by
  funext i
  simp only [Finset.piecewise]
  have := out_cover c i
  split_ifs <;> simp_all

end Cert.Gather

end
-- ==== Proof.Protocol.lean ====
/-
  The protocol of the gather, as the rounds library states it (`Idealize.ShloMosaic.Lib.Rounds`): which semaphore cells
  there are, who pays them, what each payment hands over, what each device owes when it starts, and the order of the
  cells that shows every wait is eventually served.

  Every duty is named by the device that pays it, and every cell has one round.
  * `barrier` of device `c`: one unit from each of its three peers. Peer `p` hands over slot `c` of `p`'s own exchange
    buffer: the place `c` will send its block to. A device signals only after it has entered the kernel, so no block can
    land in a buffer that is not in use yet.
  * `recv o` on device `c`, for a peer `o`: the bytes of one block, paid by the transfer `o` issues. It hands over slot
    `o` of `c`'s buffer, holding `o`'s block. (`recv c` on `c` itself is never used.)
  * `send j` on device `c`: the bytes of one block, paid by `c`'s own transfer to its peer `j + 1` places on. It hands
    back the share of `c`'s own slot which that transfer reads from.
-/
module

public import proofs.«01_k».proof.Proof.Slots
public import Idealize.ShloMosaic.Lib.Pipeline.Launch
public import Idealize.ShloMosaic.Lib.Pipeline.Kit

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline library's, and the gather's with duties named by devices -/

/-- The gather's resource: rounds over the cells, with duties named by devices. -/
abbrev UB : Type := URounds (GSem nD τ sig) (Dev nD)
/-- The pipelines' resource and the gather's together. -/
abbrev UU : Type := UR sig nD τ × UB

local notation "𝕄" => MT nD τ sig Unit (Elt F) ℕ UU ℕ

/-- Where the pipelines' resource lies in the whole; -/
abbrev EP : Emb (UR sig nD τ) (MT nD τ sig Unit (Elt F) ℕ UU ℕ) := embL
/-- where the gather's does. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

/-- The barrier semaphore. -/
abbrev barS : Sem sig := (SemArray.scalar (sig.barrier 0 rfl) : Sems sig S_).sem
set_option backward.proofsInPublic true in
/-- The semaphore of a device's transfer `j`, on the sender. -/
def sendS (j : Fin 3) : DmaSem sig := (⟨3 + j.val, by omega⟩ : Fin 10)
set_option backward.proofsInPublic true in
/-- The semaphore of the transfer from device `o`, on the receiver. -/
def recvS (o : Dev nD) : DmaSem sig := (⟨6 + o.val, by have : o.val < 4 := o.isLt; omega⟩ : Fin 10)

/-- The program's names for these semaphores: the first send semaphore. -/
theorem send_sem0 : ((cc0_scratch1.slice (Rect.unit (s := S3) ![0] S1.size inb_S3_S1_0)).squeeze S_ squeezes_S1_S_).sem = sendS 0 := by decide
/-- The second send semaphore. -/
theorem send_sem1 : ((cc0_scratch1.slice (Rect.unit (s := S3) ![1] S1.size inb_S3_S1_1)).squeeze S_ squeezes_S1_S_).sem = sendS 1 := by decide
/-- The third send semaphore. -/
theorem send_sem2 : ((cc0_scratch1.slice (Rect.unit (s := S3) ![2] S1.size inb_S3_S1_2)).squeeze S_ squeezes_S1_S_).sem = sendS 2 := by decide
/-- The receive semaphore for device `o`, whatever the form its offset is printed in. -/
theorem recv_sem (o : Dev nD) (off : Fin 1 → Nat) (h : off = k0_off2 o) (inb : ∀ a, off a + S1.size a ≤ S4.size a) :
    ((cc0_scratch2.slice (Rect.unit (s := S4) off S1.size inb)).squeeze S_ squeezes_S1_S_).sem = recvS o := by
  subst h; revert o; decide +kernel

/-- The barrier semaphore on device `c`. -/
abbrev barCell (c : Dev nD) : GSem nD τ sig := ((c : Thread nD τ), .reg barS)
/-- Device `c`'s send semaphore `j`. -/
abbrev sendCell (c : Dev nD) (j : Fin 3) : GSem nD τ sig := ((c : Thread nD τ), .dma (sendS j))
/-- Device `c`'s receive semaphore for device `o`. -/
abbrev recvCell (c o : Dev nD) : GSem nD τ sig := ((c : Thread nD τ), .dma (recvS o))

/-- What a semaphore is used for. -/
inductive Role where
  | barrier
  | send (j : Fin 3)
  | recv (o : Dev nD)
  | other
deriving DecidableEq

set_option backward.proofsInPublic true in
/-- The use of a semaphore, from its name. -/
def role : SemLoc sig → Role
  | .reg _ => .barrier
  | .dma q => (![.other, .other, .other, .send 0, .send 1, .send 2, .recv 0, .recv 1, .recv 2, .recv 3] : Fin 10 → Role) q

/-- The barrier semaphore is used as the barrier. -/
theorem role_bar : role (.reg barS) = .barrier := rfl
/-- Send semaphore `j` is used for transfer `j`. -/
theorem role_send (j : Fin 3) : role (.dma (sendS j)) = .send j := by revert j; decide
/-- Receive semaphore `o` is used for the transfer from device `o`. -/
theorem role_recv (o : Dev nD) : role (.dma (recvS o)) = .recv o := by revert o; decide

/-- The units by which a transfer of one block raises each semaphore it completes on. -/
abbrev N : ℕ := (slotM 0).view.dmaCredit
/-- It is the same for every slot. -/
theorem credit_eq (o : Dev nD) : (slotM o).view.dmaCredit = N := rfl
/-- It isn't zero. -/
theorem N_pos : 0 < N := View.dmaCredit_pos _ (by decide)

/-! ## Contents -/

/-- The block of `A` that device `c` is launched with. -/
def xA (c : Dev nD) : S768x384.Idx → Elt F .bf16 := ((cfg0.win 0).blk t0_0).view.read (Elt F) (m ((c : Thread nD τ).loc main_arg0))
/-- The copy of `B` that device `c` is launched with. -/
def xB (c : Dev nD) : S384x768.Idx → Elt F .bf16 := ((cfg0.win 1).blk t0_0).view.read (Elt F) (m ((c : Thread nD τ).loc main_arg1))

/-- Share `q` of slot `o` of device `d`'s exchange buffer, at contents `f`. -/
def slotPts (d o : Dev nD) (q : PosShare TreeShare) (f : S4x768x384.Idx → Elt F .bf16) : sProp 𝕄 :=
  (slotM o).view.loc (d : Thread nD τ) ↦[(slotM o).view.set]{q} f

/-- A share of a slot may be kept in an invariant. -/
instance slotPts_storable (d o : Dev nD) (q : PosShare TreeShare) (f) : BI.Storable (upEmb : UEmb _ 𝕄) (slotPts (F := F) d o q f) := by
  unfold slotPts; infer_instance

/-- The share of its own slot a device lends to its transfer `j`: a half, a quarter, a quarter. -/
def shareOf : Fin 3 → PosShare TreeShare
  | 0 => fullShare.left
  | 1 => fullShare.right.left
  | 2 => fullShare.right.right

/-! ## The schedule -/

/-- The duties of a cell of device `c`, by the cell's use. -/
def dutiesOf (c : Dev nD) : Role → Finset (Dev nD)
  | .barrier => Finset.univ.erase c
  | .send _ => {c}
  | .recv o => if o = c then ∅ else {o}
  | .other => ∅

/-- The amount of each duty. -/
def amountOf : Role → ℕ
  | .barrier => 1
  | _ => N

/-- What the payment of duty `p` of a cell of device `c` hands over. -/
def payOf (c : Dev nD) : Role → Dev nD → sProp 𝕄
  | .barrier, p => iprop(∃ f, slotPts p c fullShare f)
  | .send j, _ => slotPts c c (shareOf j) (slotC (xA m c))
  | .recv o, _ => slotPts c o fullShare (slotC (xA m o))
  | .other, _ => iprop(emp)

/-- What a duty hands over may be kept in an invariant. -/
instance payOf_storable (c : Dev nD) (k : Role) (p : Dev nD) : BI.Storable (upEmb : UEmb _ 𝕄) (payOf m c k p) := by
  cases k <;> unfold payOf <;> infer_instance

/-- The schedule: one round, on the TensorCores' cells, with the duties, amounts and payloads above. -/
def gatherRd : Rounds.Schedule (GSem nD τ sig) (Dev nD) 𝕄 where
  duties g r := if r = 0 ∧ g.1.2 = .tc then dutiesOf g.1.1 (role g.2) else ∅
  unitless _ := False
  amount g _ _ := amountOf (role g.2)
  payload g _ d := payOf m g.1.1 (role g.2) d
  amount_pos g _ _ _ := by
    cases h : role g.2 <;> unfold amountOf <;> first | exact Nat.one_pos | exact N_pos

/-- Every payload of the schedule may be kept in an invariant. -/
instance gatherRd_payload_storable (g : GSem nD τ sig) (r : ℕ) (d : Dev nD) :
    BI.Storable (upEmb : UEmb _ 𝕄) ((gatherRd (F := F) m).payload g r d) := by
  show BI.Storable upEmb (payOf m g.1.1 (role g.2) d); infer_instance

section Sched
variable (c : Dev nD)

/-- In round 0 a cell has the duties of its use. -/
theorem duties_tc (sm : SemLoc sig) : (gatherRd (F := F) m).duties ((c : Thread nD τ), sm) 0 = dutiesOf c (role sm) := by
  dsimp only [gatherRd]; exact if_pos ⟨rfl, rfl⟩
/-- The barrier's duties: one of each other device. -/
theorem duties_bar : (gatherRd (F := F) m).duties (barCell c) 0 = Finset.univ.erase c := duties_tc m c _
/-- A send cell's duty: its own device's. -/
theorem duties_send (j : Fin 3) : (gatherRd (F := F) m).duties (sendCell c j) 0 = {c} := by rw [duties_tc, role_send]; rfl
/-- A receive cell's duty: the sender's. -/
theorem duties_recv {o : Dev nD} (h : o ≠ c) : (gatherRd (F := F) m).duties (recvCell c o) 0 = {o} := by
  rw [duties_tc, role_recv]; exact if_neg h
/-- There is no later round. -/
theorem duties_later (g : GSem nD τ sig) : ∀ r, 1 ≤ r → (gatherRd (F := F) m).duties g r = ∅ :=
  fun r hr => by dsimp only [gatherRd]; exact if_neg fun h => by omega
/-- The receive cell of a device's own block is never used. -/
theorem duties_self : ∀ r, 0 ≤ r → (gatherRd (F := F) m).duties (recvCell c c) r = ∅ := fun r _ => by
  rcases Nat.eq_zero_or_pos r with rfl | h
  · rw [duties_tc, role_recv]; exact if_pos rfl
  · exact duties_later m _ r h

/-- A signal to the barrier is one unit. -/
theorem amount_bar (d : Dev nD) : (gatherRd (F := F) m).amount (barCell c) 0 d = 1 := rfl
/-- A transfer pays its send cell one block's units; -/
theorem amount_send (j : Fin 3) (d : Dev nD) : (gatherRd (F := F) m).amount (sendCell c j) 0 d = N := by
  show amountOf (role (.dma (sendS j))) = N; rw [role_send]; rfl
/-- and its receive cell as many. -/
theorem amount_recv (o d : Dev nD) : (gatherRd (F := F) m).amount (recvCell c o) 0 d = N := by
  show amountOf (role (.dma (recvS o))) = N; rw [role_recv]; rfl

/-- Peer `p`'s signal hands over slot `c` of the peer's buffer. -/
theorem payload_bar (p : Dev nD) : (gatherRd (F := F) m).payload (barCell c) 0 p = iprop(∃ f, slotPts p c fullShare f) := rfl
/-- The end of transfer `j` hands back the share of the slot that it was reading. -/
theorem payload_send (j : Fin 3) (d : Dev nD) : (gatherRd (F := F) m).payload (sendCell c j) 0 d = slotPts c c (shareOf j) (slotC (xA m c)) := by
  show payOf m c (role (.dma (sendS j))) d = _; rw [role_send]; rfl
/-- The landing of the transfer from `o` hands over slot `o`, holding device `o`'s block. -/
theorem payload_recv (o d : Dev nD) : (gatherRd (F := F) m).payload (recvCell c o) 0 d = slotPts c o fullShare (slotC (xA m o)) := by
  show payOf m c (role (.dma (recvS o))) d = _; rw [role_recv]; rfl

/-- The barrier expects three units. -/
theorem expect_bar : (gatherRd (F := F) m).expect (barCell c) 0 = 3 := by
  unfold Schedule.expect Schedule.amountOf
  rw [duties_bar, Finset.sum_congr rfl fun d _ => amount_bar m c d, Finset.sum_const, Finset.card_erase_of_mem (Finset.mem_univ _)]
  rfl
/-- A send cell expects one block's units. -/
theorem expect_send (j : Fin 3) : (gatherRd (F := F) m).expect (sendCell c j) 0 = N := by
  unfold Schedule.expect Schedule.amountOf; rw [duties_send, Finset.sum_singleton, amount_send]
/-- So does a receive cell. -/
theorem expect_recv {o : Dev nD} (h : o ≠ c) : (gatherRd (F := F) m).expect (recvCell c o) 0 = N := by
  unfold Schedule.expect Schedule.amountOf; rw [duties_recv m c h, Finset.sum_singleton, amount_recv]

/-- What a completed wait on the barrier hands over: slot `c` of each peer's buffer. -/
theorem rest_bar : bigSep ((gatherRd (F := F) m).duties (barCell c) 0 \ ∅) (fun d => (gatherRd (F := F) m).payload (barCell c) 0 d)
    = iprop((∃ f, slotPts (sh 0 c) c fullShare f) ∗ (∃ f, slotPts (sh 1 c) c fullShare f) ∗ ∃ f, slotPts (sh 2 c) c fullShare f) := by
  rw [Finset.sdiff_empty, duties_bar, bigSep_eq_bigSepL_of_eq [sh 0 c, sh 1 c, sh 2 c] (peers_eq c) (peer_nodup c)]
  rfl
/-- What a completed wait for a transfer's end hands over: the share of the device's own slot lent to it. -/
theorem rest_send (j : Fin 3) : bigSep ((gatherRd (F := F) m).duties (sendCell c j) 0 \ ∅) (fun d => (gatherRd (F := F) m).payload (sendCell c j) 0 d)
    = slotPts c c (shareOf j) (slotC (xA m c)) := by
  rw [Finset.sdiff_empty, duties_send, bigSep_singleton, payload_send]
/-- What a completed wait for a landing hands over: the sender's slot, holding the sender's block. -/
theorem rest_recv {o : Dev nD} (h : o ≠ c) : bigSep ((gatherRd (F := F) m).duties (recvCell c o) 0 \ ∅) (fun d => (gatherRd (F := F) m).payload (recvCell c o) 0 d)
    = slotPts c o fullShare (slotC (xA m o)) := by
  rw [Finset.sdiff_empty, duties_recv m c h, bigSep_singleton, payload_recv]

end Sched

/-! ## What each device owes at launch; the levels -/

/-- What is still owed before each step that pays. Before the third transfer: that transfer. -/
def OR2 (c : Dev nD) : CellTallies nD τ sig Unit := tallyAt (recvCell (sh 2 c) c) () N
/-- Before the second transfer: the last two. -/
def OR1 (c : Dev nD) : CellTallies nD τ sig Unit := OR2 c + tallyAt (recvCell (sh 1 c) c) () N
/-- Before the first transfer: all three. -/
def OR0 (c : Dev nD) : CellTallies nD τ sig Unit := OR1 c + tallyAt (recvCell (sh 0 c) c) () N
/-- Before the third signal: that signal and the transfers. -/
def OB2 (c : Dev nD) : CellTallies nD τ sig Unit := OR0 c + tallyAt (barCell (sh 2 c)) () 1
/-- Before the second signal: two signals and the transfers. -/
def OB1 (c : Dev nD) : CellTallies nD τ sig Unit := OB2 c + tallyAt (barCell (sh 1 c)) () 1
/-- At launch: three signals and three transfers. -/
def O₀ (c : Dev nD) : CellTallies nD τ sig Unit := OB1 c + tallyAt (barCell (sh 0 c)) () 1

/-- The TensorCores' cells have one level each, the others none. -/
def L (g : GSem nD τ sig) : Finset Unit := if g.1.2 = .tc then {()} else ∅
/-- Level of a use: barrier cells at 1, receive cells at 2, everything else at 0. -/
def lvOf : Role → ℕ
  | .barrier => 1
  | .recv _ => 2
  | _ => 0
/-- The level of a cell, by its use. -/
def lv (g : GSem nD τ sig) (_ : Unit) : ℕ := lvOf (role g.2)

/-- A cell of no TensorCore has no level. -/
theorem L_of_ne (g : GSem nD τ sig) (h : g.1.2 ≠ .tc) : L g = ∅ := if_neg h
/-- A TensorCore's cell has one. -/
theorem L_tc (c : Dev nD) (sm : SemLoc sig) : L ((c : Thread nD τ), sm) = {()} := if_pos rfl

/-- A tally of one cell is positive at that cell only. -/
theorem tally_pos {g' g : GSem nD τ sig} {n : ℕ} {u : Unit} (h : 0 < (tallyAt g' () n : CellTallies nD τ sig Unit) g u) : g = g' := by
  by_contra hn
  rw [tallyAt_apply, if_neg (fun h' => hn h'.1)] at h
  exact Nat.lt_irrefl 0 h

/-- The transfers pay receive cells; -/
theorem OR0_pos {c : Dev nD} {g : GSem nD τ sig} {u : Unit} (h : 0 < OR0 c g u) : ∃ d o : Dev nD, g = recvCell d o := by
  unfold OR0 OR1 OR2 at h
  rw [Pi.add_apply, Finsupp.add_apply, Pi.add_apply, Finsupp.add_apply] at h
  rcases Nat.add_pos_iff_pos_or_pos.mp h with h | h
  · rcases Nat.add_pos_iff_pos_or_pos.mp h with h | h <;> exact ⟨_, _, tally_pos h⟩
  · exact ⟨_, _, tally_pos h⟩
/-- the signals barrier cells. -/
theorem O₀_pos {c : Dev nD} {g : GSem nD τ sig} {u : Unit} (h : 0 < O₀ c g u) :
    (∃ d o : Dev nD, g = recvCell d o) ∨ ∃ d : Dev nD, g = barCell d := by
  unfold O₀ OB1 OB2 at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · exact .inl (OR0_pos h)
      · exact .inr ⟨_, tally_pos h⟩
    · exact .inr ⟨_, tally_pos h⟩
  · exact .inr ⟨_, tally_pos h⟩

/-- A receive cell is at level 2; -/
theorem lv_recv (d o : Dev nD) : lv (recvCell d o) () = 2 := by unfold lv; rw [role_recv]; rfl
/-- a barrier cell at level 1. -/
theorem lv_bar (d : Dev nD) : lv (barCell d) () = 1 := rfl

/-- A wait on a staging semaphore is served whatever the device owes: those semaphores are below all that is owed. -/
theorem mayWait_stage (c : Dev nD) (q : DmaSem sig) (hq : role (.dma q) = .other) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, o, rfl⟩ | ⟨d, rfl⟩ <;> exact Finset.mem_singleton_self _)
      (fun p hp => by rw [Finset.mem_singleton.mp hp]; dsimp only [lv]; rw [hq]; exact Nat.le_refl _)
      (fun g u hg => by
        cases u
        rcases O₀_pos hg with ⟨d, o, rfl⟩ | ⟨d, rfl⟩
        · rw [lv_recv]; decide
        · rw [lv_bar]; decide)
  · rw [MayWait_zero]; iintro -; iempintro

/-- At its barrier wait a device owes receive cells only, which are above its barrier cell. -/
theorem mayWait_bar (c : Dev nD) : (levAts L lv : sProp 𝕄) ⊢ MayWait (c : Thread nD τ) (.reg barS) () (OR0 c) :=
  MayOwe.of_cut (L := L) (lev := lv) 1 (fun p hp => by rw [Finset.mem_singleton.mp hp, L_tc]; exact Finset.mem_singleton_self _)
    (fun g u hg => by obtain ⟨d, o, rfl⟩ := OR0_pos hg; exact Finset.mem_singleton_self _)
    (fun p hp => by rw [Finset.mem_singleton.mp hp]; exact Nat.le_refl _)
    (fun g u hg => by cases u; obtain ⟨d, o, rfl⟩ := OR0_pos hg; rw [lv_recv]; decide)

/-! ## The cells as one family, and what a device starts with -/

set_option backward.proofsInPublic true in
/-- A device's eight cells: the barrier, the three send cells, the four receive cells. -/
def csem : Fin 8 → SemLoc sig :=
  ![.reg barS, .dma (sendS 0), .dma (sendS 1), .dma (sendS 2), .dma (recvS 0), .dma (recvS 1), .dma (recvS 2), .dma (recvS 3)]
/-- The cell of a device at a place of that list. -/
abbrev kcell (ck : Dev nD × Fin 8) : GSem nD τ sig := ((ck.1 : Thread nD τ), csem ck.2)

set_option backward.proofsInPublic true in
/-- The place of send cell `j` in that list. -/
def kS (j : Fin 3) : Fin 8 := ⟨1 + j.val, by omega⟩
set_option backward.proofsInPublic true in
/-- The place of the receive cell for device `o`. -/
def kR (o : Dev nD) : Fin 8 := ⟨4 + o.val, by have : o.val < 4 := o.isLt; omega⟩
/-- First is the barrier; -/
theorem csem_bar : csem 0 = .reg barS := rfl
/-- then the send cells; -/
theorem csem_send (j : Fin 3) : csem (kS j) = .dma (sendS j) := by revert j; decide
/-- then the receive cells. -/
theorem csem_recv (o : Dev nD) : csem (kR o) = .dma (recvS o) := by revert o; decide

/-- What every device may use throughout: the invariants of all cells, at the names `K` the launch chose, and that every
    cell has reached its round 0. -/
def records (K : Dev nD × Fin 8 → ℕ) : sProp 𝕄 :=
  iprop((bigSep Finset.univ fun ck : Dev nD × Fin 8 => cellInv ER (gatherRd m) (K ck) (kcell ck))
    ∗ bigSep Finset.univ fun ck : Dev nD × Fin 8 => reached ER (kcell ck) 0)

/-- These facts may be used again and again. -/
instance records_persistent (K : Dev nD × Fin 8 → ℕ) : BI.Persistent (records m K) := by unfold records; infer_instance

/-- They hold the invariant of each cell; -/
theorem inv_at (K : Dev nD × Fin 8 → ℕ) (ck : Dev nD × Fin 8) : records m K ⊢ cellInv ER (gatherRd m) (K ck) (kcell ck) := by
  have h : (bigSep Finset.univ fun ck : Dev nD × Fin 8 => (cellInv ER (gatherRd m) (K ck) (kcell ck) : sProp 𝕄)) ⊢ cellInv ER (gatherRd m) (K ck) (kcell ck) :=
    bigSep_elim (Finset.mem_univ ck)
  unfold records; iintro ⟨H, -⟩; iapply h; iexact H
/-- and that each cell has reached round 0. -/
theorem reached_at (K : Dev nD × Fin 8 → ℕ) (ck : Dev nD × Fin 8) : records m K ⊢ reached ER (kcell ck) 0 := by
  have h : (bigSep Finset.univ fun ck : Dev nD × Fin 8 => (reached ER (kcell ck) 0 : sProp 𝕄)) ⊢ reached ER (kcell ck) 0 :=
    bigSep_elim (Finset.mem_univ ck)
  unfold records; iintro ⟨-, H⟩; iapply h; iexact H

/-- The invariant of a barrier cell. -/
theorem inv_bar (K : Dev nD × Fin 8 → ℕ) (d : Dev nD) : records m K ⊢ cellInv ER (gatherRd m) (K (d, 0)) (barCell d) := inv_at m K (d, 0)
/-- The invariant of a send cell. -/
theorem inv_send (K : Dev nD × Fin 8 → ℕ) (d : Dev nD) (j : Fin 3) : records m K ⊢ cellInv ER (gatherRd m) (K (d, kS j)) (sendCell d j) := by
  have h := inv_at m K (d, kS j); unfold kcell at h; rw [csem_send] at h; exact h
/-- The invariant of a receive cell. -/
theorem inv_recv (K : Dev nD × Fin 8 → ℕ) (d o : Dev nD) : records m K ⊢ cellInv ER (gatherRd m) (K (d, kR o)) (recvCell d o) := by
  have h := inv_at m K (d, kR o); unfold kcell at h; rw [csem_recv] at h; exact h
/-- A barrier cell has reached round 0. -/
theorem reached_bar (K : Dev nD × Fin 8 → ℕ) (d : Dev nD) : records m K ⊢ reached ER (barCell d) 0 := reached_at m K (d, 0)
/-- A send cell has reached round 0. -/
theorem reached_send (K : Dev nD × Fin 8 → ℕ) (d : Dev nD) (j : Fin 3) : records m K ⊢ reached ER (sendCell d j) 0 := by
  have h := reached_at m K (d, kS j); unfold kcell at h; rw [csem_send] at h; exact h
/-- A receive cell has reached round 0. -/
theorem reached_recv (K : Dev nD × Fin 8 → ℕ) (d o : Dev nD) : records m K ⊢ reached ER (recvCell d o) 0 := by
  have h := reached_at m K (d, kR o); unfold kcell at h; rw [csem_recv] at h; exact h

/-- Device `c`'s positions, at the start of round 0 of its own cells: the receive cells in the order own, then peers. -/
def positions (c : Dev nD) : sProp 𝕄 :=
  iprop(atPos ER (barCell c) 0 ∅ 0
    ∗ (atPos ER (sendCell c 0) 0 ∅ 0 ∗ atPos ER (sendCell c 1) 0 ∅ 0 ∗ atPos ER (sendCell c 2) 0 ∅ 0)
    ∗ atPos ER (recvCell c c) 0 ∅ 0 ∗ atPos ER (recvCell c (sh 0 c)) 0 ∅ 0 ∗ atPos ER (recvCell c (sh 1 c)) 0 ∅ 0 ∗ atPos ER (recvCell c (sh 2 c)) 0 ∅ 0)

/-- The tokens of the duties device `c` pays, for its peer `j + 1` places on: that peer's barrier, `c`'s send cell `j`,
    that peer's receive cell for `c`. -/
def payToks (c : Dev nD) (j : Fin 3) : sProp 𝕄 :=
  iprop(dutyTok ER (barCell (sh j c)) 0 c ∗ dutyTok ER (sendCell c j) 0 c ∗ dutyTok ER (recvCell (sh j c) c) 0 c)

/-- What device `c` alone starts with. -/
def linear (c : Dev nD) : sProp 𝕄 := iprop(positions c ∗ payToks c 0 ∗ payToks c 1 ∗ payToks c 2)

/-- The credits for the waits of device `c` that others serve. -/
def credits (c : Dev nD) : sProp 𝕄 :=
  iprop(cred (tallyAt (barCell c) () 3) ∗ cred (tallyAt (recvCell c (sh 0 c)) () N) ∗ cred (tallyAt (recvCell c (sh 1 c)) () N)
    ∗ cred (tallyAt (recvCell c (sh 2 c)) () N))

/-- What the launch gives device `c`; -/
def ghost (c : Dev nD) : sProp 𝕄 := iprop((∃ K, records m K) ∗ linear c)
/-- with the credits and the level facts, what its body starts from. -/
def start (c : Dev nD) : sProp 𝕄 := iprop(ghost m c ∗ credits c ∗ levAts L lv)

/-- The exchange buffer of device `c`, whole, at some contents. -/
def scratch (c : Dev nD) : sProp 𝕄 := iprop(∃ f : Buf (Elt F) ((c : Thread nD τ).loc cc0_scratch0), ((c : Thread nD τ).loc cc0_scratch0) ↦{fullShare} f)

/-- The counters of device `c`'s cells, all zero. -/
def zeros (c : Dev nD) : sProp 𝕄 :=
  iprop(semVal (barCell c) 0
    ∗ (semVal (sendCell c 0) 0 ∗ semVal (sendCell c 1) 0 ∗ semVal (sendCell c 2) 0)
    ∗ semVal (recvCell c c) 0 ∗ semVal (recvCell c (sh 0 c)) 0 ∗ semVal (recvCell c (sh 1 c)) 0 ∗ semVal (recvCell c (sh 2 c)) 0)

/-! ## The pipeline's proof data -/

/-- The result on device `c`: the product of the four devices' blocks with `c`'s copy of `B`. -/
def outAt (c : Dev nD) : S3072x768.Idx → Elt F .bf16 := outG (xA m) (xB m c)

/-- What the pipeline's proof is told of device `c`: its arrays at launch, what each staging buffer holds after the body, the state before and after it, and what is owed. -/
def dats (_ : Fin 1) (c : Dev nD) : Dat τ (Elt F) Unit ℕ UU ℕ cfg0 c where
  A w := m ((cfg0.win w).arr.view.loc (c : Thread nD τ))
  after w _ := match w with
    | ⟨0, _⟩ => xA m c
    | ⟨1, _⟩ => xB m c
    | ⟨2, _⟩ => outAt m c
  Φ t := match t with
    | ⟨0, _⟩ => iprop(start m c ∗ scratch c)
    | ⟨_ + 1, _⟩ => iprop(scratch c ∗ zeros c)
  q _ := fullShare
  owed t := match t with
    | ⟨0, _⟩ => O₀ c
    | ⟨_ + 1, _⟩ => 0

/-- No loop needs a measure. -/
abbrev 𝒱₀ : Variants := Variants.none

/-- Owning a whole buffer at contents `X` is holding it at a value equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.Gather

end
-- ==== Proof.Steps.lean ====
/-
  The steps of the gather's body, one theorem per kind of step: a signal to a peer, the wait on the barrier, the send of a
  device's own block to a peer, the wait for a peer's block and the wait for a send, the loads and stores of one slot of the
  exchange buffer and of one block of rows of the result. Where the program computes an offset, a device or a semaphore,
  the theorem takes any such value with an equation saying which one it is.
-/
module

public import proofs.«01_k».proof.Proof.Protocol

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Fin 8 → ℕ)
variable {α : Type}

/-- The signal to the peer `n` that is `j + 1` places on: the device pays its unit, handing over the slot of its own buffer that
    `n` will send to. -/
theorem wp_signal_peer (c n : Dev nD) (j : Fin 3) (hn : n = sh j c) {Q : α → sProp 𝕄} {k : PUnit → Prog (TpuEff nD τ sig (Elt F) Λ₀ .tc) α}
    (O' O : CellTallies nD τ sig Unit) (hO : O' = O + tallyAt (barCell (sh j c)) () 1) (W : Waits sig Unit)
    (f : S4x768x384.Idx → Elt F .bf16) :
    iprop(records m K ∗ owes (c : Thread nD τ) O' W ∗ dutyTok ER (barCell (sh j c)) 0 c ∗ slotPts (F := F) c (sh j c) fullShare f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n, .tc) barS (1#32).toInt) k) Q) := by
  subst hn
  iintro ⟨#HR, HO, Htok, Hs⟩
  iapply (Rounds.wp_signal 𝒱₀ ER (gatherRd m) (c : Thread nD τ) none (dst := (sh j c : Thread nD τ)) (κ := K (sh j c, 0)) (r := 0)
      (d := c) (k' := 1) (by rw [duties_bar]; exact Finset.mem_erase.mpr ⟨fun h => sh_ne j c h.symm, Finset.mem_univ _⟩)
      (amount_bar m (sh j c) c) () O hO) $$ [HO Htok Hs]
  · isplitr; · iapply (inv_bar m K (sh j c)); iexact HR
    isplitl [HO]; · iexact HO
    isplitl [Htok]; · iexact Htok
    isplitl [Hs]; · rw [payload_bar]; iexists f; iexact Hs
    iapply (reached_bar m K (sh j c)); iexact HR

/-- The wait for the three peers' units: the peers' slots come with it. -/
theorem wp_wait_bar (c : Dev nD) {Q : α → sProp 𝕄} {k : PUnit → Prog (TpuEff nD τ sig (Elt F) Λ₀ .tc) α} (W : Waits sig Unit) :
    iprop(records m K ∗ levAts L lv ∗ cred (tallyAt (barCell c) () 3) ∗ owes (c : Thread nD τ) (OR0 c) W ∗ atPos ER (barCell c) 0 ∅ 0)
      ⊢ iprop(((owes (c : Thread nD τ) (OR0 c) (insert (SemLoc.reg barS, ()) W) ∗ atPos ER (barCell c) (0 + 1) ∅ 0
              ∗ (∃ f, slotPts (F := F) (sh 0 c) c fullShare f) ∗ (∃ f, slotPts (F := F) (sh 1 c) c fullShare f) ∗ ∃ f, slotPts (F := F) (sh 2 c) c fullShare f)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (3#32).toInt) k) Q) := by
  iintro ⟨#HR, #Hlev, Hc, HO, Hat⟩ Hk
  iapply (Rounds.wp_wait_rest_token 𝒱₀ ER (gatherRd m) (c : Thread nD τ) none (κ := K (c, 0)) (k' := 3)
      (wpE_semWait_eq 𝒱₀ (c : Thread nD τ) none Set.univ) (Set.mem_univ _) () (O := OR0 c) (W := W) (R := 0) (m := 0) (T := ∅)
      (by rw [expect_bar])) $$ [Hc HO Hat]
  · isplitr; · iapply (inv_bar m K c); iexact HR
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  iapply (Entails.of_eq (rest_bar m c)); iexact Hpay

/-- The send of a device's own block to the peer `n` that is `j + 1` places on: from its own slot, of which it lends the share
    set apart for this send, to the slot of `n`'s buffer it was handed. -/
theorem wp_send_peer (c n : Dev nD) (j : Fin 3) (hn : n = sh j c) (qs qr : DmaSem sig) (hqs : qs = sendS j) (hqr : qr = recvS c)
    {hsc : (slotM c : Memref sig (Dev.tc n : Thread nD τ).2.kind .vmem S768x384 .bf16).view.ref.isScScratch = false}
    {hsrc : (slotM c : Memref sig .tc .vmem S768x384 .bf16).view.WordExact} {hdst : (slotM c : Memref sig .tc .vmem S768x384 .bf16).view.WordExact}
    {hsem : DmaTarget.Typed .vmem (.dma qr) (.remote (Dev.tc n : Thread nD τ) (slotM c : Memref sig .tc .vmem S768x384 .bf16) (.dma qs) hsc)}
    {Q : α → sProp 𝕄} {k : PUnit → Prog (TpuEff nD τ sig (Elt F) Λ₀ .tc) α}
    (fn : S4x768x384.Idx → Elt F .bf16) (O' O : CellTallies nD τ sig Unit)
    (hO : O' = O + tallyAt (recvCell (sh j c) c) () N) (W : Waits sig Unit) :
    iprop(records m K ∗ slotPts (F := F) c c (shareOf j) (slotC (xA m c)) ∗ slotPts (F := F) (sh j c) c fullShare fn
        ∗ owes (c : Thread nD τ) O' W ∗ dutyTok ER (sendCell c j) 0 c ∗ dutyTok ER (recvCell (sh j c) c) 0 c)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM c) (.remote (Dev.tc n : Thread nD τ) (slotM c) (.dma qs) hsc) (.dma qr) hsrc hdst hsem) k) Q) := by
  subst hn hqs hqr
  iintro ⟨#HR, Hsrc, Hdst, HO, Ht1, Ht2⟩
  iapply (Rounds.wp_send_pointsTo 𝒱₀ ER (gatherRd m) (c : Thread nD τ) none (κ₁ := K (c, kS j)) (κ₂ := K (sh j c, kR c))
    (c' := (sh j c : Thread nD τ)) (src := slotM c) (dst := slotM c) (sS := .dma (sendS j)) (sem := .dma (recvS c)) (r₁ := 0) (r₂ := 0) (d₁ := c) (d₂ := c) (q := shareOf j) (fs := slotC (xA m c)) (fd := fn)
    (by rw [duties_send]; exact Finset.mem_singleton_self _)
    (by rw [duties_recv m _ (fun h => sh_ne j c h.symm)]; exact Finset.mem_singleton_self _)
    () () N (credit_eq c) (amount_send m c j c) (amount_recv m (sh j c) c c) O hO (W := W)
    (by rw [payload_send]; exact BI.Entails.refl _)
    (by rw [payload_recv]; unfold slotPts; exact Entails.of_eq (pointsTo_congr (slot_land c (xA m c) fn)))) $$ [Hsrc Hdst HO Ht1 Ht2]
  unfold slotPts
  isplitr; · iapply (inv_send m K c j); iexact HR
  isplitr; · iapply (inv_recv m K (sh j c) c); iexact HR
  isplitl [Hsrc]; · iexact Hsrc
  isplitl [Hdst]; · iexact Hdst
  isplitl [HO]; · iexact HO
  isplitl [Ht1]; · iexact Ht1
  isplitr; · iapply (reached_send m K c j); iexact HR
  isplitl [Ht2]; · iexact Ht2
  iapply (reached_recv m K (sh j c) c); iexact HR

/-- The wait for the block of the peer `o`: the slot of the device's own buffer that now holds it comes with it. -/
theorem wp_wait_recv (c o : Dev nD) (ho : o ≠ c) (q : DmaSem sig) (hq : q = recvS o) (off : Fin 3 → Nat) (hoff : off = k0_off3 o)
    {inb inb' : ∀ a, off a + S1x768x384.size a ≤ S4x768x384.size a}
    {hsrc : (((cM : Memref sig .tc .vmem S4x768x384 .bf16).slice (Rect.unit (s := S4x768x384) off S1x768x384.size inb) (fun _ => rfl)).squeeze S768x384 squeezes_S1x768x384_S768x384).view.WordExact}
    {hdst : (((cM : Memref sig .tc .vmem S4x768x384 .bf16).slice (Rect.unit (s := S4x768x384) off S1x768x384.size inb') (fun _ => rfl)).squeeze S768x384 squeezes_S1x768x384_S768x384).view.WordExact}
    {Q : α → sProp 𝕄} {k : PUnit → Prog (TpuEff nD τ sig (Elt F) Λ₀ .tc) α} (W : Waits sig Unit) :
    iprop(records m K ∗ cred (tallyAt (recvCell c o) () N) ∗ owes (c : Thread nD τ) 0 W ∗ atPos ER (recvCell c o) 0 ∅ 0)
      ⊢ iprop(((owes (c : Thread nD τ) 0 (insert (SemLoc.dma (recvS o), ()) W) ∗ atPos ER (recvCell c o) (0 + 1) ∅ 0
              ∗ slotPts (F := F) c o fullShare (slotC (xA m o)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q (((cM : Memref sig .tc .vmem S4x768x384 .bf16).slice (Rect.unit (s := S4x768x384) off S1x768x384.size inb) (fun _ => rfl)).squeeze S768x384 squeezes_S1x768x384_S768x384)
                (((cM : Memref sig .tc .vmem S4x768x384 .bf16).slice (Rect.unit (s := S4x768x384) off S1x768x384.size inb') (fun _ => rfl)).squeeze S768x384 squeezes_S1x768x384_S768x384) hsrc hdst) k) Q) := by
  subst hq hoff
  have e : (cred (tallyAt (recvCell c o) () N) : sProp 𝕄) = cred (tallyAt (recvCell c o) () (slotM o).view.dmaCredit) := by rw [credit_eq]
  rw [e]
  iintro ⟨#HR, Hc, HO, Hat⟩ Hk
  iapply (Rounds.wp_wait_rest_token 𝒱₀ ER (gatherRd m) (c : Thread nD τ) none (κ := K (c, kR o)) (k' := (slotM o).view.dmaCredit)
      (wpE_waitDma2_eq 𝒱₀ (c : Thread nD τ) none Set.univ) (Set.mem_univ _) () (O := 0) (W := W) (R := 0) (m := 0) (T := ∅)
      (by rw [Nat.zero_add, credit_eq, expect_recv m c ho])) $$ [Hc HO Hat]
  · isplitr; · iapply (inv_recv m K c o); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_recv m c ho)); iexact Hpay

/-- The wait for a device's own send `j`: the share of its own slot lent to it comes back. -/
theorem wp_wait_send (c : Dev nD) (j : Fin 3) (q : DmaSem sig) (hq : q = sendS j)
    {hsrc hdst : (slotM c : Memref sig .tc .vmem S768x384 .bf16).view.WordExact}
    {Q : α → sProp 𝕄} {k : PUnit → Prog (TpuEff nD τ sig (Elt F) Λ₀ .tc) α} (W : Waits sig Unit) :
    iprop(records m K ∗ cred (tallyAt (sendCell c j) () N) ∗ owes (c : Thread nD τ) 0 W ∗ atPos ER (sendCell c j) 0 ∅ 0)
      ⊢ iprop(((owes (c : Thread nD τ) 0 (insert (SemLoc.dma (sendS j), ()) W) ∗ atPos ER (sendCell c j) (0 + 1) ∅ 0
              ∗ slotPts (F := F) c c (shareOf j) (slotC (xA m c)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q (slotM c) (slotM c) hsrc hdst) k) Q) := by
  subst hq
  have e : (cred (tallyAt (sendCell c j) () N) : sProp 𝕄) = cred (tallyAt (sendCell c j) () (slotM c).view.dmaCredit) := by rw [credit_eq]
  rw [e]
  iintro ⟨#HR, Hc, HO, Hat⟩ Hk
  iapply (Rounds.wp_wait_rest_token 𝒱₀ ER (gatherRd m) (c : Thread nD τ) none (κ := K (c, kS j)) (k' := (slotM c).view.dmaCredit)
      (wpE_waitDma2_eq 𝒱₀ (c : Thread nD τ) none Set.univ) (Set.mem_univ _) () (O := 0) (W := W) (R := 0) (m := 0) (T := ∅)
      (by rw [Nat.zero_add, credit_eq, expect_send])) $$ [Hc HO Hat]
  · isplitr; · iapply (inv_send m K c j); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_send m c j)); iexact Hpay

/-- The load of slot `o`, at any contents. -/
theorem wp_load_slot_any (c o : Dev nD) (off : Fin 3 → Nat) (hoff : off = k0_off3 o) {inb : ∀ a, off a + S1x768x384.size a ≤ S4x768x384.size a}
    {hl : (cM : Memref sig .tc .vmem S4x768x384 .bf16).view.LoadsAt (Rect.unit (s := S4x768x384) off S1x768x384.size inb).toLoadRect}
    {Q : α → sProp 𝕄} {k : (S1x768x384.Idx → Elt F .bf16) → Prog (TpuEff nD τ sig (Elt F) Λ₀ .tc) α} (q : PosShare TreeShare)
    (f : S4x768x384.Idx → Elt F .bf16) :
    slotPts (F := F) c o q f
      ⊢ iprop((slotPts (F := F) c o q f
            -∗ wp frame (wpE (defs₀ (F := F)) 𝒱₀ (c : Thread nD τ) none) Set.univ (k (((cM : Memref sig .tc .vmem S4x768x384 .bf16).access (slotR o) : View sig .tc _ _ _).read (Elt F) f)) Q)
          -∗ wp frame (wpE (defs₀ (F := F)) 𝒱₀ (c : Thread nD τ) none) Set.univ
              (.op (.load cM (Rect.unit (s := S4x768x384) off S1x768x384.size inb).toLoadRect hl) k) Q) := by
  subst hoff
  unfold slotPts
  exact wp_load_rect 𝒱₀ (c : Thread nD τ) none Set.univ (m := cM) (r := slotR o) (S := (slotM o).view.set)
    ((slotAcc_set o).trans (slotM_set o).symm).subset

/-- The load of a slot that holds the block `x`. -/
theorem wp_load_slot (c o : Dev nD) (off : Fin 3 → Nat) (hoff : off = k0_off3 o) {inb : ∀ a, off a + S1x768x384.size a ≤ S4x768x384.size a}
    {hl : (cM : Memref sig .tc .vmem S4x768x384 .bf16).view.LoadsAt (Rect.unit (s := S4x768x384) off S1x768x384.size inb).toLoadRect}
    {Q : α → sProp 𝕄} {k : (S1x768x384.Idx → Elt F .bf16) → Prog (TpuEff nD τ sig (Elt F) Λ₀ .tc) α} (q : PosShare TreeShare) (x : S768x384.Idx → Elt F .bf16) :
    slotPts (F := F) c o q (slotC x)
      ⊢ iprop((slotPts (F := F) c o q (slotC x)
            -∗ wp frame (wpE (defs₀ (F := F)) 𝒱₀ (c : Thread nD τ) none) Set.univ (k (k0_pay2 x)) Q)
          -∗ wp frame (wpE (defs₀ (F := F)) 𝒱₀ (c : Thread nD τ) none) Set.univ
              (.op (.load cM (Rect.unit (s := S4x768x384) off S1x768x384.size inb).toLoadRect hl) k) Q) := by
  rw [← slot_read o x]
  exact wp_load_slot_any c o off hoff q (slotC x)

/-- The store of the block `x` into slot `o`. -/
theorem wp_store_slot (c o : Dev nD) (off : Fin 3 → Nat) (hoff : off = k0_off3 o) {inb : ∀ a, off a + S1x768x384.size a ≤ S4x768x384.size a}
    (x : S768x384.Idx → Elt F .bf16)
    {hx : ((cM : Memref sig .tc .vmem S4x768x384 .bf16).access (Rect.unit (s := S4x768x384) off S1x768x384.size inb)).Stores Finset.univ}
    {hm : (Finset.univ : Finset S1x768x384.Idx) = Finset.univ ∨ ∀ a, (Rect.unit (s := S4x768x384) off S1x768x384.size inb).stride a = 1}
    {Q : α → sProp 𝕄} {k : PUnit → Prog (TpuEff nD τ sig (Elt F) Λ₀ .tc) α}
    (f : S4x768x384.Idx → Elt F .bf16) :
    slotPts (F := F) c o fullShare f
      ⊢ iprop((slotPts (F := F) c o fullShare (slotC x)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.store cM (Rect.unit (s := S4x768x384) off S1x768x384.size inb) (k0_pay2 x) Finset.univ hx hm) k) Q) := by
  subst hoff
  have e : slotPts (F := F) c o fullShare (slotC x)
      = ((slotM o).view.loc (c : Thread nD τ) ↦[(slotM o).view.set]{fullShare}
          (((cM : Memref sig .tc .vmem S4x768x384 .bf16).access (slotR o) : View sig .tc _ _ _).write (Elt F) f (k0_pay2 x) Finset.univ) : sProp 𝕄) := by
    unfold slotPts
    exact pointsTo_congr fun i hi => (slot_store o x f i (by rw [← slotM_set o]; exact hi)).symm
  rw [e]
  unfold slotPts
  exact wp_store 𝒱₀ (c : Thread nD τ) none Set.univ (m := cM) (r := slotR o) (Mk := Finset.univ) (S := (slotM o).view.set)
    ((slotAcc_set o).trans (slotM_set o).symm).subset

/-- The result's staging buffer of device `c`, whole, at contents `f`. -/
def outPts (c : Dev nD) (f : S3072x768.Idx → Elt F .bf16) : sProp 𝕄 :=
  ((c : Thread nD τ).loc cc0_stg2_0) ↦{fullShare} f

/-- The load of a block of rows of the result: what it reads does not matter. -/
theorem wp_load_out (c : Dev nD) (off : Fin 2 → Nat) {inb : ∀ a, off a + S768x768.size a ≤ S3072x768.size a}
    {hl : (oM : Memref sig .tc .vmem S3072x768 .bf16).view.LoadsAt (Rect.unit (s := S3072x768) off S768x768.size inb).toLoadRect}
    {Q : α → sProp 𝕄} {k : (S768x768.Idx → Elt F .bf16) → Prog (TpuEff nD τ sig (Elt F) Λ₀ .tc) α}
    (p : Prog (TpuEff nD τ sig (Elt F) Λ₀ .tc) α) (hk : ∀ v, k v = p)
    (f : S3072x768.Idx → Elt F .bf16) :
    outPts (F := F) c f
      ⊢ iprop((outPts (F := F) c f -∗ wp frame (wpE (defs₀ (F := F)) 𝒱₀ (c : Thread nD τ) none) Set.univ p Q)
          -∗ wp frame (wpE (defs₀ (F := F)) 𝒱₀ (c : Thread nD τ) none) Set.univ
              (.op (.load oM (Rect.unit (s := S3072x768) off S768x768.size inb).toLoadRect hl) k) Q) := by
  rw [← hk (((oM : Memref sig .tc .vmem S3072x768 .bf16).access (Rect.unit (s := S3072x768) off S768x768.size inb) : View sig .tc _ _ _).read (Elt F) f)]
  exact wp_load_rect 𝒱₀ (c : Thread nD τ) none Set.univ (m := oM) (r := Rect.unit (s := S3072x768) off S768x768.size inb) (S := Finset.univ) (q := fullShare) (f := f) (Finset.subset_univ _)

/-- The store of the rows computed from device `o`'s block: the result in those rows, the other rows as they were. -/
theorem wp_store_out (c o : Dev nD) (off : Fin 2 → Nat) (hoff : off = k0_off4 o) {inb : ∀ a, off a + S768x768.size a ≤ S3072x768.size a}
    (xs : Dev nD → S768x384.Idx → Elt F .bf16) (b : S384x768.Idx → Elt F .bf16)
    (w : S768x768.Idx → Elt F .bf16) (hw : w = rows (xs o) b)
    {hx : ((oM : Memref sig .tc .vmem S3072x768 .bf16).access (Rect.unit (s := S3072x768) off S768x768.size inb)).Stores Finset.univ}
    {hm : (Finset.univ : Finset S768x768.Idx) = Finset.univ ∨ ∀ a, (Rect.unit (s := S3072x768) off S768x768.size inb).stride a = 1}
    {Q : α → sProp 𝕄} {k : PUnit → Prog (TpuEff nD τ sig (Elt F) Λ₀ .tc) α}
    (f : S3072x768.Idx → Elt F .bf16) :
    outPts (F := F) c f
      ⊢ iprop((outPts (F := F) c ((outSet o).piecewise (outG xs b) f)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.store oM (Rect.unit (s := S3072x768) off S768x768.size inb) w Finset.univ hx hm) k) Q) := by
  subst hoff hw
  rw [← out_store xs b o f]
  unfold outPts
  exact wp_store 𝒱₀ (c : Thread nD τ) none Set.univ (m := oM) (r := outR o) (Mk := Finset.univ) (S := Finset.univ) (f := f) (Finset.subset_univ _)

end Cert.Gather

end
-- ==== Proof.Body.lean ====
/-
  The body of the kernel on one device, executed step by step from what the launch hands it, to its exit: the result's staging buffer
  holds the result, the exchange buffer is whole again, and the counters of all the device's semaphores are zero.
-/
module

public import proofs.«01_k».proof.Proof.Steps
public import proofs.«01_k».proof.Proof.Gen.KernelIdeal.Points
public import Idealize.ShloMosaic.Lib.Ring
public import Idealize.ShloMosaic.Lib.Ring.FamCut

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The exchange buffer, cut into its slots -/

/-- What of the buffer lies outside every slot (nothing, in fact, but that is not needed). -/
def restPts (c : Dev nD) : sProp 𝕄 :=
  iprop(∃ f : Buf (Elt F) ((c : Thread nD τ).loc cc0_scratch0),
    ((c : Thread nD τ).loc cc0_scratch0) ↦[Ring.restOf (ℓ := (c : Thread nD τ).loc cc0_scratch0) (fun o : Dev nD => (slotM o).view.set)]{fullShare} f)

/-- Two different slots have no element in common. -/
theorem slotM_disj (o o' : Dev nD) (h : o ≠ o') : Disjoint (slotM o).view.set (slotM o').view.set := by
  have := slot_disj o o' h
  rw [← slotM_set o, ← slotM_set o'] at this
  exact this

/-- A family over the devices, listed from device `c` on. -/
theorem bigSep_dev (c : Dev nD) (Φ : Dev nD → sProp 𝕄) : bigSep Finset.univ Φ = iprop(Φ c ∗ Φ (sh 0 c) ∗ Φ (sh 1 c) ∗ Φ (sh 2 c)) :=
  bigSep_univ_eq_bigSepL [c, sh 0 c, sh 1 c, sh 2 c] (dev_univ c) (dev_nodup c) Φ

/-- Slot `o` of device `c`'s buffer at some contents. -/
def slotAny (c o : Dev nD) : sProp 𝕄 := iprop(∃ f, slotPts (F := F) c o fullShare f)

/-- The exchange buffer is its four slots and the rest of it. -/
theorem scratch_split (c : Dev nD) :
    (scratch c : sProp 𝕄) ⊢ iprop((slotAny c c ∗ slotAny c (sh 0 c) ∗ slotAny c (sh 1 c) ∗ slotAny c (sh 2 c)) ∗ restPts c) := by
  rw [← bigSep_dev c (fun o => slotAny c o)]
  exact Ring.fam_split_ex (ℓ := (c : Thread nD τ).loc cc0_scratch0) (fun o : Dev nD => (slotM o).view.set) slotM_disj

/-- The four slots and the rest, at any contents, are the exchange buffer again. -/
theorem scratch_join (c : Dev nD) (f₀ : S4x768x384.Idx → Elt F .bf16) :
    iprop((slotAny c c ∗ slotAny c (sh 0 c) ∗ slotAny c (sh 1 c) ∗ slotAny c (sh 2 c)) ∗ restPts c) ⊢ (scratch c : sProp 𝕄) := by
  rw [← bigSep_dev c (fun o => slotAny c o)]
  exact Ring.fam_join (ℓ := (c : Thread nD τ).loc cc0_scratch0) (fun o : Dev nD => (slotM o).view.set) slotM_disj f₀

/-- A slot is the three shares of it. -/
theorem slot_shares (c o : Dev nD) (f : S4x768x384.Idx → Elt F .bf16) :
    (slotPts c o fullShare f : sProp 𝕄) ⊣⊢ iprop(slotPts c o (shareOf 0) f ∗ slotPts c o (shareOf 1) f ∗ slotPts c o (shareOf 2) f) := by
  unfold slotPts shareOf
  have h1 := pointsTo_share (Ix := Unit) (Name := ℕ) (U := UU) (Lvl := ℕ) (ℓ := (slotM o).view.loc (c : Thread nD τ)) (I := (slotM o).view.set) (f := f)
    (PosShare.mem_left_op_right fullShare)
  have h2 := pointsTo_share (Ix := Unit) (Name := ℕ) (U := UU) (Lvl := ℕ) (ℓ := (slotM o).view.loc (c : Thread nD τ)) (I := (slotM o).view.set) (f := f)
    (PosShare.mem_left_op_right fullShare.right)
  exact ⟨h1.1.trans (sep_mono_right h2.1), (sep_mono_right h2.2).trans h1.2⟩

/-! ## The cells at the exit -/

/-- Once its rounds are over every cell of a device is closed, its counter zero. -/
theorem cells_close (K : Dev nD × Fin 8 → ℕ) (c : Dev nD) :
    iprop(records m K ∗ atPos ER (barCell c) (0 + 1) ∅ 0
      ∗ (atPos ER (sendCell c 0) (0 + 1) ∅ 0 ∗ atPos ER (sendCell c 1) (0 + 1) ∅ 0 ∗ atPos ER (sendCell c 2) (0 + 1) ∅ 0)
      ∗ atPos ER (recvCell c c) 0 ∅ 0 ∗ atPos ER (recvCell c (sh 0 c)) (0 + 1) ∅ 0 ∗ atPos ER (recvCell c (sh 1 c)) (0 + 1) ∅ 0
      ∗ atPos ER (recvCell c (sh 2 c)) (0 + 1) ∅ 0)
      ⊢ (|={Set.univ}=> zeros c : sProp 𝕄) := by
  iintro ⟨#HR, HB, ⟨HS0, HS1, HS2⟩, HV, HV0, HV1, HV2⟩
  imod (Rounds.cell_close ER (gatherRd m) (Set.mem_univ (K (c, 0))) (fun h => h) (R := 0 + 1) (duties_later m (barCell c))) $$ [HB] with HB
  · isplitr; · iapply (inv_bar m K c); iexact HR
    iexact HB
  imod (Rounds.cell_close ER (gatherRd m) (Set.mem_univ (K (c, kS 0))) (fun h => h) (R := 0 + 1) (duties_later m (sendCell c 0))) $$ [HS0] with HS0
  · isplitr; · iapply (inv_send m K c 0); iexact HR
    iexact HS0
  imod (Rounds.cell_close ER (gatherRd m) (Set.mem_univ (K (c, kS 1))) (fun h => h) (R := 0 + 1) (duties_later m (sendCell c 1))) $$ [HS1] with HS1
  · isplitr; · iapply (inv_send m K c 1); iexact HR
    iexact HS1
  imod (Rounds.cell_close ER (gatherRd m) (Set.mem_univ (K (c, kS 2))) (fun h => h) (R := 0 + 1) (duties_later m (sendCell c 2))) $$ [HS2] with HS2
  · isplitr; · iapply (inv_send m K c 2); iexact HR
    iexact HS2
  imod (Rounds.cell_close ER (gatherRd m) (Set.mem_univ (K (c, kR c))) (fun h => h) (R := 0) (duties_self m c)) $$ [HV] with HV
  · isplitr; · iapply (inv_recv m K c c); iexact HR
    iexact HV
  imod (Rounds.cell_close ER (gatherRd m) (Set.mem_univ (K (c, kR (sh 0 c)))) (fun h => h) (R := 0 + 1) (duties_later m (recvCell c (sh 0 c)))) $$ [HV0] with HV0
  · isplitr; · iapply (inv_recv m K c (sh 0 c)); iexact HR
    iexact HV0
  imod (Rounds.cell_close ER (gatherRd m) (Set.mem_univ (K (c, kR (sh 1 c)))) (fun h => h) (R := 0 + 1) (duties_later m (recvCell c (sh 1 c)))) $$ [HV1] with HV1
  · isplitr; · iapply (inv_recv m K c (sh 1 c)); iexact HR
    iexact HV1
  imod (Rounds.cell_close ER (gatherRd m) (Set.mem_univ (K (c, kR (sh 2 c)))) (fun h => h) (R := 0 + 1) (duties_later m (recvCell c (sh 2 c)))) $$ [HV2] with HV2
  · isplitr; · iapply (inv_recv m K c (sh 2 c)); iexact HR
    iexact HV2
  imodintro
  unfold zeros
  isplitl [HB]; · iexact HB
  isplitl [HS0 HS1 HS2]
  · isplitl [HS0]; · iexact HS0
    isplitl [HS1] <;> iassumption
  isplitl [HV]; · iexact HV
  isplitl [HV0]; · iexact HV0
  isplitl [HV1] <;> iassumption

/-! ## The loads of the operands -/

/-- Both offsets of a whole-array load are zero. -/
theorem hz : (![0, 0] : Fin 2 → Nat) = fun _ => 0 := funext fun a => by fin_cases a <;> rfl
/-- Loading the whole of the buffer of `A` reads its contents. -/
theorem read_a (f : S768x384.Idx → Elt F .bf16) :
    (aM : Memref sig .tc .vmem S768x384 .bf16).view.readAt (Elt F) (Rect.unit (s := S768x384) ![0, 0] S768x384.size inb_S768x384_S768x384_0_0).toLoadRect f = f :=
  Memref.readAt_unit_zero (Elt F) cc0_stg0_0 hz _ f
/-- Loading the whole of the buffer of `B` reads its contents. -/
theorem read_b (f : S384x768.Idx → Elt F .bf16) :
    (bM : Memref sig .tc .vmem S384x768 .bf16).view.readAt (Elt F) (Rect.unit (s := S384x768) ![0, 0] S384x768.size inb_S384x768_S384x768_0_0).toLoadRect f = f :=
  Memref.readAt_unit_zero (Elt F) cc0_stg1_0 hz _ f

/-! ## The body -/

/-- A staging buffer, whole, at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What a device's body starts from: what the launch gave it, its exchange buffer, what it owes, and its three staging buffers. -/
def bodyPre (c : Dev nD) : sProp 𝕄 :=
  iprop((start m c ∗ scratch c) ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

/-- What a device's body ends with: the exchange buffer, every counter at zero, nothing owed, the arguments' buffers as they were and the result in its buffer. -/
def bodyPost (c : Dev nD) : sProp 𝕄 :=
  iprop((scratch c ∗ zeros c) ∗ (dats m 0 c).owesAt () t0_0.succ
    ∗ stg c cc0_stg0_0 (xA m c) ∗ stg c cc0_stg1_0 (xB m c) ∗ stg c cc0_stg2_0 (outAt m c))

set_option maxHeartbeats 4000000 in
set_option maxRecDepth 8000 in
/-- The body, one step after the other in program order, from `bodyPre` to `bodyPost`. -/
theorem sound_body (c : Dev nD) (Kt : PUnit → sProp 𝕄) :
    iprop(bodyPre m c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre start ghost linear positions payToks credits
  iintro ⟨⟨⟨⟨⟨⟨%K, #HR⟩, ⟨HaB, ⟨HaS0, HaS1, HaS2⟩, HaV, HaV0, HaV1, HaV2⟩, ⟨HtB0, HtS0, HtV0⟩, ⟨HtB1, HtS1, HtV1⟩, ⟨HtB2, HtS2, HtV2⟩⟩,
      ⟨HcB, HcV0, HcV1, HcV2⟩, #Hlev⟩, Hscr⟩, Ho, ⟨%d0, %g0, %hg0, Hx⟩, ⟨%d1, %g1, %hg1, Hb⟩, ⟨%d2, %g2, %hg2, Hout⟩⟩, Hk⟩
  have hx : g0 = xA m c := by rw [hg0]; unfold Dat.before; rw [if_pos (fetch0_0 t0_0)]; rfl
  have hb : g1 = xB m c := by rw [hg1]; unfold Dat.before; rw [if_pos (fetch0_1 t0_0)]; rfl
  subst hx hb
  unfold Dat.owesAt Pipeline.owesWithin
  icases Ho with ⟨%W, %hW, HO⟩
  rw [show (dats m 0 c).owed t0_0.castSucc = O₀ c from rfl]
  ihave Hsl := (scratch_split (F := F) c) $$ Hscr
  unfold slotAny
  icases Hsl with ⟨⟨⟨%fc, Hc⟩, ⟨%f0, Hs0⟩, ⟨%f1, Hs1⟩, ⟨%f2, Hs2⟩⟩, Hrest⟩
  -- the three signals
  iapply (wp_signal_peer m K c _ 0 (dev1_eq c) (O₀ c) (OB1 c) rfl W f0) $$ [HO HtB0 Hs0]
  · isplitr; · iexact HR
    isplitl [HO]; · iexact HO
    isplitl [HtB0] <;> iassumption
  iintro HO
  iapply (wp_signal_peer m K c _ 1 (dev2_eq c) (OB1 c) (OB2 c) rfl W f1) $$ [HO HtB1 Hs1]
  · isplitr; · iexact HR
    isplitl [HO]; · iexact HO
    isplitl [HtB1] <;> iassumption
  iintro HO
  iapply (wp_signal_peer m K c _ 2 (dev3_eq c) (OB2 c) (OR0 c) rfl W f2) $$ [HO HtB2 Hs2]
  · isplitr; · iexact HR
    isplitl [HO]; · iexact HO
    isplitl [HtB2] <;> iassumption
  iintro HO
  -- the wait for the peers' signals: the slots to send to
  iapply (wp_wait_bar m K c W) $$ [HcB HO HaB]
  · isplitr; · iexact HR
    isplitr; · iexact Hlev
    isplitl [HcB]; · iexact HcB
    isplitl [HO] <;> iassumption
  iintro ⟨HO, HaB, ⟨%p0, Hp0⟩, ⟨%p1, Hp1⟩, ⟨%p2, Hp2⟩⟩
  -- the device's own block into its own slot
  iapply (wp_load 𝒱₀ (c : Thread nD τ) none Set.univ (m := aM) (Finset.subset_univ _)) $$ Hx; iintro Hx
  rw [read_a]
  iapply (wp_load_slot_any c c _ (off1_eq c) fullShare fc) $$ Hc; iintro Hc
  iapply (wp_store_slot c c _ (off1_eq c) (xA m c) fc) $$ Hc; iintro Hc
  -- the three sends
  ihave Hc3 := (slot_shares (F := F) c c (slotC (xA m c))).1 $$ Hc
  icases Hc3 with ⟨Hq0, Hq1, Hq2⟩
  iapply (wp_send_peer m K c _ 0 (dev4_eq c) _ _ send_sem0 (recv_sem c _ rfl _) p0 (OR0 c) (OR1 c) rfl _) $$ [Hq0 Hp0 HO HtS0 HtV0]
  · isplitr; · iexact HR
    isplitl [Hq0]; · iexact Hq0
    isplitl [Hp0]; · iexact Hp0
    isplitl [HO]; · iexact HO
    isplitl [HtS0] <;> iassumption
  iintro ⟨HcS0, HO⟩
  iapply (wp_send_peer m K c _ 1 (dev5_eq c) _ _ send_sem1 (recv_sem c _ rfl _) p1 (OR1 c) (OR2 c) rfl _) $$ [Hq1 Hp1 HO HtS1 HtV1]
  · isplitr; · iexact HR
    isplitl [Hq1]; · iexact Hq1
    isplitl [Hp1]; · iexact Hp1
    isplitl [HO]; · iexact HO
    isplitl [HtS1] <;> iassumption
  iintro ⟨HcS1, HO⟩
  iapply (wp_send_peer m K c _ 2 (dev6_eq c) _ _ send_sem2 (recv_sem c _ rfl _) p2 (OR2 c) 0 (by rw [zero_add]; rfl) _) $$ [Hq2 Hp2 HO HtS2 HtV2]
  · isplitr; · iexact HR
    isplitl [Hq2]; · iexact Hq2
    isplitl [Hp2]; · iexact Hp2
    isplitl [HO]; · iexact HO
    isplitl [HtS2] <;> iassumption
  iintro ⟨HcS2, HO⟩
  -- the rows of its own block
  iapply (wp_load 𝒱₀ (c : Thread nD τ) none Set.univ (m := bM) (Finset.subset_univ _)) $$ Hb; iintro Hb
  rw [read_b]
  ihave Ho := (show (((c : Thread nD τ).loc cc0_stg2_0) ↦{fullShare} g2 : sProp 𝕄) ⊢ outPts (F := F) c g2 from BI.Entails.refl _) $$ Hout
  iapply (wp_load_out c _ _ (fun _ => rfl) _) $$ Ho; iintro Ho
  iapply (wp_store_out c c _ rfl (xA m) (xB m c) _ (own_rows _ _) _) $$ Ho; iintro Ho
  -- the block of the peer 1 places on, and its rows
  iapply (wp_wait_recv m K c (sh 0 c) (sh_ne 0 c) _ (recv_sem (sh 0 c) _ (off5_eq c 0) _) _ (off6_eq c 0) _) $$ [HcV0 HO HaV0]
  · isplitr; · iexact HR
    isplitl [HcV0]; · iexact HcV0
    isplitl [HO] <;> iassumption
  iintro ⟨HO, HaV0, Hr0⟩
  iapply (wp_load_slot c (sh 0 c) _ (off7_eq c 0) fullShare (xA m (sh 0 c))) $$ Hr0; iintro Hr0
  iapply (wp_load_out c _ _ (fun _ => rfl) _) $$ Ho; iintro Ho
  iapply (wp_store_out c (sh 0 c) _ (off8_eq c 0) (xA m) (xB m c) _ rfl _) $$ Ho; iintro Ho
  -- the block of the peer 3 places on, and its rows
  iapply (wp_wait_recv m K c (sh 2 c) (sh_ne 2 c) _ (recv_sem (sh 2 c) _ (off5_eq c 2) _) _ (off6_eq c 2) _) $$ [HcV2 HO HaV2]
  · isplitr; · iexact HR
    isplitl [HcV2]; · iexact HcV2
    isplitl [HO] <;> iassumption
  iintro ⟨HO, HaV2, Hr2⟩
  iapply (wp_load_slot c (sh 2 c) _ (off7_eq c 2) fullShare (xA m (sh 2 c))) $$ Hr2; iintro Hr2
  iapply (wp_load_out c _ _ (fun _ => rfl) _) $$ Ho; iintro Ho
  iapply (wp_store_out c (sh 2 c) _ (off8_eq c 2) (xA m) (xB m c) _ rfl _) $$ Ho; iintro Ho
  -- the block of the peer 2 places on, and its rows
  iapply (wp_wait_recv m K c (sh 1 c) (sh_ne 1 c) _ (recv_sem (sh 1 c) _ (off5_eq c 1) _) _ (off6_eq c 1) _) $$ [HcV1 HO HaV1]
  · isplitr; · iexact HR
    isplitl [HcV1]; · iexact HcV1
    isplitl [HO] <;> iassumption
  iintro ⟨HO, HaV1, Hr1⟩
  iapply (wp_load_slot c (sh 1 c) _ (off7_eq c 1) fullShare (xA m (sh 1 c))) $$ Hr1; iintro Hr1
  iapply (wp_load_out c _ _ (fun _ => rfl) _) $$ Ho; iintro Ho
  iapply (wp_store_out c (sh 1 c) _ (off8_eq c 1) (xA m) (xB m c) _ rfl _) $$ Ho; iintro Ho
  -- its own sends are over: its slot is whole again
  iapply (wp_wait_send m K c 0 _ send_sem0 _) $$ [HcS0 HO HaS0]
  · isplitr; · iexact HR
    isplitl [HcS0]; · iexact HcS0
    isplitl [HO] <;> iassumption
  iintro ⟨HO, HaS0, Hq0⟩
  iapply (wp_wait_send m K c 1 _ send_sem1 _) $$ [HcS1 HO HaS1]
  · isplitr; · iexact HR
    isplitl [HcS1]; · iexact HcS1
    isplitl [HO] <;> iassumption
  iintro ⟨HO, HaS1, Hq1⟩
  iapply (wp_wait_send m K c 2 _ send_sem2 _) $$ [HcS2 HO HaS2]
  · isplitr; · iexact HR
    isplitl [HcS2]; · iexact HcS2
    isplitl [HO] <;> iassumption
  iintro ⟨HO, HaS2, Hq2⟩
  ihave Hc := (slot_shares (F := F) c c (slotC (xA m c))).2 $$ [Hq0 Hq1 Hq2]
  · isplitl [Hq0]; · iexact Hq0
    isplitl [Hq1] <;> iassumption
  rw [wp_ret]
  imod (cells_close m K c) $$ [HaB HaS0 HaS1 HaS2 HaV HaV0 HaV1 HaV2] with Hz
  · isplitr; · iexact HR
    isplitl [HaB]; · iexact HaB
    isplitl [HaS0 HaS1 HaS2]
    · isplitl [HaS0]; · iexact HaS0
      isplitl [HaS1] <;> iassumption
    isplitl [HaV]; · iexact HaV
    isplitl [HaV0]; · iexact HaV0
    isplitl [HaV1] <;> iassumption
  imodintro
  iapply Hk
  unfold bodyPost Dat.owesAt Pipeline.owesWithin
  rw [show (dats m 0 c).owed t0_0.succ = 0 from rfl]
  isplitl [Hc Hr0 Hr1 Hr2 Hrest Hz]
  · isplitr [Hz]
    · iapply (scratch_join (F := F) c (slotC (xA m c)))
      unfold slotAny
      isplitr [Hrest]
      · isplitl [Hc]; · iexists _; iexact Hc
        isplitl [Hr0]; · iexists _; iexact Hr0
        isplitl [Hr1]; · iexists _; iexact Hr1
        iexists _; iexact Hr2
      · iexact Hrest
    · iexact Hz
  isplitl [HO]
  · iexists _
    isplitr; swap; · iexact HO
    ipureintro; exact fun _ _ => Or.inl trivial
  isplitl [Hx]
  · iexists _; isplitr; · (ipureintro; rfl)
    iexact Hx
  isplitl [Hb]
  · iexists _; isplitr; · (ipureintro; rfl)
    iexact Hb
  iexists _
  isplitr; swap; · unfold outPts; iexact Ho
  ipureintro
  exact out_all c (outAt m c) g2

end Cert.Gather

end
-- ==== Proof.Run.lean ====
/-
  The launch of the kernel on the four devices: the body's theorem put under the launch theorem. From the counters at zero the
  cells' invariants are allocated for all devices at once, every device gets its positions, the tokens of the duties it pays and the
  credits of the waits others serve, and the run of the whole program follows: it terminates on every device, the result array
  holds the result, the arguments are as they were, every counter is zero.
-/
module

public import proofs.«01_k».proof.Proof.Body
public import Idealize.ShloMosaic.Lib.Pipeline.Launch
public import Idealize.ShloMosaic.Lib.Pipeline.CollectiveSegs

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 8000 in
/-- The body's theorem, in the form the launch theorem asks for. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2)
          (fun _ => bodyPost m c)
  iintro H
  iapply (sound_body m c fun _ => bodyPost m c)
  isplitr []
  · iexact H
  · iintro H; iexact H

/-! ## The semaphores -/

set_option backward.proofsInPublic true in
/-- The kernel's own semaphores: the three for its sends, the four for its receives. -/
def osem : Fin 7 → SemLoc sig :=
  ![.dma (sendS 0), .dma (sendS 1), .dma (sendS 2), .dma (recvS 0), .dma (recvS 1), .dma (recvS 2), .dma (recvS 3)]

/-- The seven DMA semaphores of the kernel's own are distinct, scoped and none of a staging buffer. -/
theorem ownSemFacts : Pipeline.OwnSemFacts cfg0.spec osem := by decide

/-- A device holds each of its arrays whole. -/
theorem share_eq (c : Dev nD) (w : Fin cfg0.W) : (dats m 0 c).share w = fullShare := by unfold Dat.share; split <;> rfl

/-- Different devices or different places in a device's list are different cells. -/
theorem kcell_injective : Function.Injective (kcell : Dev nD × Fin 8 → GSem nD τ sig) := by
  rintro ⟨c, k⟩ ⟨c', k'⟩ h
  have h1 : c = c' := congrArg (fun g : GSem nD τ sig => g.1.1) h
  subst h1
  have h2 : csem k = csem k' := congrArg Prod.snd h
  have : k = k' := by clear h; revert k k'; decide +kernel
  subst this; rfl
/-- All cells of all devices. -/
def gatherCells : Finset (GSem nD τ sig) := Finset.univ.map ⟨kcell, kcell_injective⟩

/-- The tokens, as minted: device, which peer, which of the three duties it pays for that peer. -/
def tokOf (x : Dev nD × Fin 3 × Fin 3) : GSem nD τ sig × ℕ × Dev nD := match x.2.2 with
  | 0 => (barCell (sh x.2.1 x.1), 0, x.1)
  | 1 => (sendCell x.1 x.2.1, 0, x.1)
  | 2 => (recvCell (sh x.2.1 x.1) x.1, 0, x.1)
/-- Different shifts of a device are different devices. -/
theorem sh_inj (c : Dev nD) (j j' : Fin 3) (h : sh j c = sh j' c) : j = j' := by revert c j j'; decide
/-- Every token is minted once. -/
theorem tokOf_injective : Function.Injective tokOf := by
  rintro ⟨c, j, k⟩ ⟨c', j', k'⟩ h
  have h1 : c = c' := by
    have := congrArg (fun x : GSem nD τ sig × ℕ × Dev nD => x.2.2) h
    fin_cases k <;> fin_cases k' <;> exact this
  subst h1
  have hr : role (tokOf (c, j, k)).1.2 = role (tokOf (c, j', k')).1.2 := by rw [h]
  have hd : (tokOf (c, j, k)).1.1.1 = (tokOf (c, j', k')).1.1.1 := by rw [h]
  have hk : k = k' ∧ j = j' := by
    fin_cases k <;> fin_cases k' <;> dsimp only [tokOf] at hr hd <;> simp only [role_bar, role_send, role_recv] at hr
    · exact ⟨rfl, sh_inj c _ _ hd⟩
    · cases hr
    · cases hr
    · cases hr
    · exact ⟨rfl, by injection hr⟩
    · cases hr
    · cases hr
    · cases hr
    · exact ⟨rfl, sh_inj c _ _ hd⟩
  obtain ⟨rfl, rfl⟩ := hk
  rfl
/-- All tokens of all devices. -/
def gatherToks : Finset (GSem nD τ sig × ℕ × Dev nD) := Finset.univ.map ⟨tokOf, tokOf_injective⟩

/-- The resources at launch: the pipelines' own, and the cells with their tokens. -/
def u₀ : UU :=
  (initOf (Pipeline.cells cfgs cellOf_inj) (Pipeline.launchToks cfgs cellOf_inj), initOf gatherCells gatherToks)

/-- The tokens of the duties device `c` pays. -/
def toks (c : Dev nD) : sProp 𝕄 := iprop(payToks c 0 ∗ payToks c 1 ∗ payToks c 2)

/-- What the launch element deals device `c`. -/
def G (c : Dev nD) : sProp 𝕄 :=
  iprop((bigSep Finset.univ fun k : Fin 8 => roundState ER (gatherRd m) (kcell (c, k)) 0)
    ∗ (bigSep Finset.univ fun k : Fin 8 => iprop(atPos ER (kcell (c, k)) 0 ∅ 0 ∗ reached ER (kcell (c, k)) 0)) ∗ toks c)

/-- A family over three indices, written out. -/
theorem bigSep_fin3 (Φ : Fin 3 → sProp 𝕄) : bigSep Finset.univ Φ = iprop(Φ 0 ∗ Φ 1 ∗ Φ 2) :=
  bigSep_univ_eq_bigSepL [0, 1, 2] (by decide) (by decide) Φ
/-- A family over eight indices, written out. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
/-- A family over the four devices, written out. -/
theorem bigSep_dev0 (Φ : Dev nD → sProp 𝕄) : bigSep Finset.univ Φ = iprop(Φ 0 ∗ Φ 1 ∗ Φ 2 ∗ Φ 3) :=
  bigSep_univ_eq_bigSepL [0, 1, 2, 3] (by decide) (by decide) Φ

/-- A family over a device's cells, the receive cells listed from the device's own on. -/
theorem cells8 (c : Dev nD) (Ψ : GSem nD τ sig → sProp 𝕄) :
    (bigSep Finset.univ fun k : Fin 8 => Ψ (kcell (c, k)))
      ⊣⊢ iprop(Ψ (barCell c) ∗ (Ψ (sendCell c 0) ∗ Ψ (sendCell c 1) ∗ Ψ (sendCell c 2))
        ∗ Ψ (recvCell c c) ∗ Ψ (recvCell c (sh 0 c)) ∗ Ψ (recvCell c (sh 1 c)) ∗ Ψ (recvCell c (sh 2 c))) := by
  have e : (bigSep Finset.univ fun k : Fin 8 => Ψ (kcell (c, k)))
      = iprop(Ψ (barCell c) ∗ Ψ (sendCell c 0) ∗ Ψ (sendCell c 1) ∗ Ψ (sendCell c 2)
        ∗ Ψ (recvCell c 0) ∗ Ψ (recvCell c 1) ∗ Ψ (recvCell c 2) ∗ Ψ (recvCell c 3)) := by rw [bigSep_fin8]; rfl
  rw [← bigSep_dev c (fun o => Ψ (recvCell c o)), bigSep_dev0, e]
  refine ⟨?_, ?_⟩
  · iintro ⟨H0, H1, H2, H3, H4⟩
    isplitl [H0]; · iexact H0
    isplitl [H1 H2 H3]
    · isplitl [H1]; · iexact H1
      isplitl [H2]; · iexact H2
      iexact H3
    iexact H4
  · iintro ⟨H0, ⟨H1, H2, H3⟩, H4⟩
    isplitl [H0]; · iexact H0
    isplitl [H1]; · iexact H1
    isplitl [H2]; · iexact H2
    isplitl [H3]; · iexact H3
    iexact H4

/-- The cells' resources at launch give every device its own cells and tokens. -/
theorem fund_gather : BI.own (ER (initOf gatherCells gatherToks)) ⊢ (|==> bigSep Finset.univ (G m) : sProp 𝕄) := by
  have hX (Φ : GSem nD τ sig → sProp 𝕄) : bigSep gatherCells Φ = bigSep Finset.univ fun c : Dev nD => bigSep Finset.univ fun k : Fin 8 => Φ (kcell (c, k)) := by
    unfold gatherCells; rw [bigSep_map, bigSep_univ_prod]; rfl
  have hT : bigSep gatherToks (fun x => (dutyTok ER x.1 x.2.1 x.2.2 : sProp 𝕄)) = bigSep Finset.univ fun c : Dev nD => toks c := by
    unfold gatherToks; rw [bigSep_map, bigSep_univ_prod]
    refine bigSep_congr fun c _ => ?_
    rw [bigSep_univ_prod, bigSep_fin3]; unfold toks payToks; simp only [bigSep_fin3]; rfl
  iintro HX
  imod (Rounds.fund ER (gatherRd m) gatherCells gatherToks) $$ HX with ⟨Hst, Hr, Hat, Htok⟩
  imodintro
  ihave Hst' := (Entails.of_eq (hX fun g => roundState ER (gatherRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's own DMA counters at zero, written out: three for sending, four for receiving. -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
      ∗ semVal (recvCell c 0) 0 ∗ semVal (recvCell c 1) 0 ∗ semVal (recvCell c 2) 0 ∗ semVal (recvCell c 3) 0) := by
  rw [Pipeline.ownSems0_eq_of_list c osem [0, 1, 2, 3, 4, 5, 6] (by decide) (by decide)]; rfl
/-- The barrier semaphore is the one semaphore that is not the kernel's own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The counters at zero, as the launch lists them and as the cells are listed here. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 8 => semVal (kcell (c, k)) 0 : sProp 𝕄) := by
  rw [ownSems0_eq, unscopedSems0_eq, bigSep_fin8]; rfl

/-- From its counters at zero a device gets the invariants of its eight cells, its positions in them, and its tokens. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (gatherRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Fin 8 => semVal (kcell (c, k)) 0) ∗ bigSep Finset.univ fun k : Fin 8 => roundState ER (gatherRd m) (kcell (c, k)) 0)
      ⊢ (|={Set.univ}=> bigSep Finset.univ fun k => iprop(∃ κ : ℕ, cellInv ER (gatherRd m) κ (kcell (c, k))) : sProp 𝕄) from by
        rw [← bigSep_sep']
        exact (bigSep_mono fun k _ => (Rounds.body_intro ER (gatherRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The invariants of all cells with a device's positions and tokens are what the launch gives that device. -/
theorem ghost_intro (K : Dev nD × Fin 8 → ℕ) (c : Dev nD) :
    iprop(records m K ∗ (bigSep Finset.univ fun k : Fin 8 => (atPos ER (kcell (c, k)) 0 ∅ 0 : sProp 𝕄)) ∗ toks c) ⊢ ghost m c := by
  unfold ghost linear positions toks
  iintro ⟨HR, Hat, Htok⟩
  isplitl [HR]; · iexists K; iexact HR
  isplitl [Hat]
  · iapply (cells8 (F := F) c (fun g => atPos ER g 0 ∅ 0)).1; iexact Hat
  iexact Htok

/-- A fact that may be used again and again serves every member of a family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What the devices got one by one is, with the invariants shared, what the launch gives each of them. -/
theorem regroup :
    (bigSep Finset.univ fun c : Dev nD => iprop((bigSep Finset.univ fun k => iprop(∃ κ : ℕ, cellInv ER (gatherRd m) κ (kcell (c, k))))
          ∗ (bigSep Finset.univ fun k => iprop(atPos ER (kcell (c, k)) 0 ∅ 0 ∗ reached ER (kcell (c, k)) 0)) ∗ toks c) : sProp 𝕄)
      ⊢ bigSep Finset.univ (ghost m) := by
  rw [bigSep_sep', bigSep_sep', ← bigSep_univ_prod (fun ck : Dev nD × Fin 8 => iprop(∃ κ : ℕ, cellInv ER (gatherRd m) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄))]
  iintro ⟨HI, ⟨Hat, #HR⟩, Htok⟩
  ihave HK := (BI.bigSep_exists_pi Finset.univ (fun (ck : Dev nD × Fin 8) (κ : ℕ) => (cellInv ER (gatherRd m) κ (kcell ck) : sProp 𝕄))) $$ HI
  icases HK with ⟨%K, #HI⟩
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k : Fin 8 => (atPos ER (kcell (c, k)) 0 ∅ 0 : sProp 𝕄)) toks).symm)
    isplitl [Hat]; · iexact Hat
    iexact Htok

/-- The cells of all devices are allocated in one step, since each is shared by several devices. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ## The credit at launch -/

/-- Two barrier cells are the same just when their devices are. -/
theorem bar_eq_iff {a b : Dev nD} : Iff (barCell a = barCell b) (a = b) :=
  ⟨fun h => Fin.ext (congrArg (fun g : GSem nD τ sig => g.1.1.val) h), fun h => h ▸ rfl⟩
/-- Different senders have different receive semaphores. -/
theorem recvS_inj {o o' : Dev nD} (h : recvS o = recvS o') : o = o' := by revert o o'; decide
/-- Two receive cells are the same just when their devices and their senders are. -/
theorem recv_eq_iff {a b o o' : Dev nD} : Iff (recvCell a o = recvCell b o') (a = b ∧ o = o') :=
  ⟨fun h => ⟨Fin.ext (congrArg (fun g : GSem nD τ sig => g.1.1.val) h), recvS_inj (by have := congrArg Prod.snd h; injection this)⟩,
    fun ⟨h, h'⟩ => h ▸ h' ▸ rfl⟩
/-- A receive cell is no barrier cell; -/
theorem recv_ne_bar {a b o : Dev nD} : Iff (recvCell a o = barCell b) False := ⟨fun h => (by have := congrArg Prod.snd h; cases this), False.elim⟩
/-- a barrier cell is no receive cell. -/
theorem bar_ne_recv {a b o : Dev nD} : Iff (barCell b = recvCell a o) False := ⟨fun h => (by have := congrArg Prod.snd h; cases this), False.elim⟩

/-- What device `d` owes device `c`'s barrier cell: one unit for each way `c` is a peer of `d`. -/
theorem owed_bar (d c : Dev nD) : O₀ d (barCell c) () = (if c = sh 2 d then 1 else 0) + (if c = sh 1 d then 1 else 0) + (if c = sh 0 d then 1 else 0) := by
  unfold O₀ OB1 OB2 OR0 OR1 OR2
  simp only [Pi.add_apply, Finsupp.add_apply, tallyAt_apply, bar_eq_iff, bar_ne_recv, false_and, if_false, and_true, Nat.zero_add]

/-- What device `d` owes device `c`'s receive cell for `o`. -/
theorem owed_recv (d c o : Dev nD) : O₀ d (recvCell c o) ()
    = ((if c = sh 2 d ∧ o = d then 1 else 0) + (if c = sh 1 d ∧ o = d then 1 else 0) + (if c = sh 0 d ∧ o = d then 1 else 0)) * N := by
  unfold O₀ OB1 OB2 OR0 OR1 OR2
  simp only [Pi.add_apply, Finsupp.add_apply, tallyAt_apply, recv_eq_iff, recv_ne_bar, false_and, if_false, and_true, Nat.add_zero,
    Nat.add_mul, ite_mul, Nat.one_mul, Nat.zero_mul]

/-- What all devices owe a device's barrier cell at launch is three units. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

/-- What all devices owe a device's receive cell for a peer at launch is one block. -/
theorem launch_recv (c : Dev nD) (j : Fin 3) :
    tallyOn (recvCell c (sh j c)) (launchCredit (Pipeline.owing O₀) 0 (recvCell c (sh j c))) = (tallyAt (recvCell c (sh j c)) () N : CellTallies nD τ sig Unit) := by
  unfold tallyAt; refine congrArg _ (Finsupp.ext fun u => ?_); cases u
  rw [Pipeline.launchCredit_owing, Finsupp.single_eq_same, Finset.sum_congr rfl fun d _ => owed_recv d c (sh j c), ← Finset.sum_mul]
  have h : (∑ d : Dev nD, ((if c = sh 2 d ∧ sh j c = d then 1 else 0) + (if c = sh 1 d ∧ sh j c = d then 1 else 0) + (if c = sh 0 d ∧ sh j c = d then 1 else 0))) = 1 := by
    revert c j; decide
  rw [h, Nat.one_mul]

/-- The launch's credit of a device is the credits for its waits. -/
theorem creds (c : Dev nD) : (Pipeline.launchCred O₀ c : sProp 𝕄) ⊢ credits c := by
  have hb (j : Fin 3) : (SemLoc.dma (recvS (sh j c)) : SemLoc sig) ≠ .reg barS := fun h => by cases h
  have hr (j j' : Fin 3) (h : j ≠ j') : (SemLoc.dma (recvS (sh j c)) : SemLoc sig) ≠ .dma (recvS (sh j' c)) :=
    fun e => h (sh_inj c j j' (recvS_inj (by injection e)))
  unfold Pipeline.launchCred credits
  rw [bigSep_univ_at _ (SemLoc.reg barS), launch_bar,
    bigSep_erase (i := SemLoc.dma (recvS (sh 0 c))) (Finset.mem_erase.mpr ⟨hb 0, Finset.mem_univ _⟩), launch_recv,
    bigSep_erase (i := SemLoc.dma (recvS (sh 1 c))) (Finset.mem_erase.mpr ⟨hr 1 0 (by decide), Finset.mem_erase.mpr ⟨hb 1, Finset.mem_univ _⟩⟩), launch_recv]
  refine sep_mono_right (sep_mono_right (sep_mono_right ?_))
  rw [← launch_recv]
  exact bigSep_elim (Finset.mem_erase.mpr ⟨hr 2 1 (by decide), Finset.mem_erase.mpr ⟨hr 2 0 (by decide), Finset.mem_erase.mpr ⟨hb 2, Finset.mem_univ _⟩⟩⟩)

/-! ## The side conditions of the launch theorem -/

/-- What the launch hands a device makes up what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

/-- With the exchange buffer it is the state before the kernel's one grid point. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  unfold scratch
  iintro ⟨Hs, -, Hr⟩
  isplitl [Hs] <;> iassumption

/-- The state after it gives back the counters at zero and the exchange buffer. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(scratch c ∗ zeros c) from rfl, scopedRest0_eq]
  unfold zeros scratch
  iintro ⟨Hr, Hz⟩
  ihave Hz' := (cells8 (F := F) c (fun g => semVal g 0)).2 $$ Hz
  ihave Hz2 := (Entails.of_eq (sems0_eq (F := F) c).symm) $$ Hz'
  icases Hz2 with ⟨Hu, Ho⟩
  isplitl [Hu]; · iexact Hu
  isplitl [Ho] <;> iassumption

/-- Every wait of the pipeline for a staging copy is allowed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What window `w`'s array on device `c` holds after the run. -/
def finalA (c : Dev nD) (w : Fin cfg0.W) : Buf (Elt F) ((cfg0.win w).arr.view.loc (c : Thread nD τ)) := (dats m 0 c).arrAt w cfg0.N

/-- Every array of every device ends at the contents that the proof data say. -/
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- On the four devices, for any float values, from any memory with zero counters: every weakly fair execution of the program
    terminates, and in every final state each device's arrays hold what the proof data say and every counter is zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := ghost m) (u₀ := u₀)
    (hu₀ := by
      unfold u₀
      iintro Hu
      ihave H := (ownU_pair _ _) $$ Hu
      icases H with ⟨HP, HX⟩
      imod (fund_gather m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Gather

end
-- ==== Proof.Final.lean ====
/- What the arrays hold after the run: the two arguments what they held at the launch, the result the product
   `outG` of the four devices' blocks with the device's copy of the right factor. Each window is one block, the
   whole of its array. -/
module

public import proofs.«01_k».proof.Proof.Run

@[expose] public section

noncomputable section

namespace Cert.Gather

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The only block of the first argument starts at the array's first element. -/
theorem emb_a (j : S768x384.Idx) : ((cfg0.win 0).blk t0_0).view.emb j = j := by
  have e : ∀ a, win0_0.index t0_0 a * win0_0.size a = 0 := by decide +kernel
  funext a; apply Fin.ext
  show win0_0.index t0_0 a * win0_0.size a + 1 * (j a).val = (j a).val
  rw [e a]; omega

/-- The only block of the second argument starts at the array's first element. -/
theorem emb_b (j : S384x768.Idx) : ((cfg0.win 1).blk t0_0).view.emb j = j := by
  have e : ∀ a, win0_1.index t0_0 a * win0_1.size a = 0 := by decide +kernel
  funext a; apply Fin.ext
  show win0_1.index t0_0 a * win0_1.size a + 1 * (j a).val = (j a).val
  rw [e a]; omega

/-- The only block of the result starts at the array's first element. -/
theorem emb_out (j : S3072x768.Idx) : ((cfg0.win 2).blk t0_0).view.emb j = j := by
  have e : ∀ a, win0_2.index t0_0 a * win0_2.size a = 0 := by decide +kernel
  funext a; apply Fin.ext
  show win0_2.index t0_0 a * win0_2.size a + 1 * (j a).val = (j a).val
  rw [e a]; omega

/-- The first argument's one block is the whole of it. -/
theorem xA_eq (c : Dev nD) : xA m c = m ((c : Thread nD τ).loc main_arg0) := by
  funext j
  show m ((c : Thread nD τ).loc main_arg0) (((cfg0.win 0).blk t0_0).view.emb j) = _
  rw [emb_a]

/-- The second argument's one block is the whole of it. -/
theorem xB_eq (c : Dev nD) : xB m c = m ((c : Thread nD τ).loc main_arg1) := by
  funext j
  show m ((c : Thread nD τ).loc main_arg1) (((cfg0.win 1).blk t0_0).view.emb j) = _
  rw [emb_b]

/-- The first argument's array ends as it began. -/
theorem final_a (c : Dev nD) : finalA m c 0 = m ((c : Thread nD τ).loc main_arg0) := (dats m 0 c).arrAt_in 0 rfl _

/-- The second argument's array ends as it began. -/
theorem final_b (c : Dev nD) : finalA m c 1 = m ((c : Thread nD τ).loc main_arg1) := (dats m 0 c).arrAt_in 1 rfl _

/-- What is written back at the end is the whole product. -/
theorem flushed_out (c : Dev nD) (t : Fin cfg0.N) :
    (dats m 0 c).flushed 2 t = ((cfg0.win 2).blk t).view.read (Elt F) (outAt m c) := by
  show (cfg0.win 2).cut (grid0.coords t) (outAt m c) = _
  obtain rfl := fin_N0 t
  funext j
  show outAt m c j = outAt m c (((cfg0.win 2).blk t0_0).view.emb j)
  rw [emb_out]

/-- Every element of the result is in the one block written back. -/
theorem cover_out (i : S3072x768.Idx) :
    ∃ t : Fin cfg0.N, (cfg0.win 2).flush t = true ∧ i ∈ ((cfg0.win 2).blk t).view.set := by
  have h := ((cfg0.win 2).blk t0_0).view.emb_mem_set i
  rw [emb_out] at h
  exact ⟨t0_0, flush0_2 _, h⟩

/-- The result's array ends holding the product. -/
theorem final_out (c : Dev nD) : finalA m c 2 = outAt m c :=
  (dats m 0 c).arrAt_eq_of_cover 2 (outAt m c) (fun t _ => flushed_out m c t) cover_out

/-- The run, read at @main's arrays: it ends, the result on every device is the product, the arguments are as they
    were, and every counter is zero. -/
theorem run : θ_run defs (onTc (τ := τ) (main (F := F))) ⟨m, fun _ => 0, ρ⟩ fun r =>
      (∀ c : Dev nD, r.2.mem ((c : Thread nD τ).loc main_v1) = outAt m c
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0 :=
  (θ_run defs _ _).mono (fun _ h => ⟨fun c => ⟨(h.1 c 2).trans (final_out m c), (h.1 c 0).trans (final_a m c),
    (h.1 c 1).trans (final_b m c)⟩, h.2⟩) (run_main m ρ)

end Cert.Gather

end
-- ==== Proof.Value.lean ====
/- The mathematics of the value claim: at the ideal numbers, the product the four devices assemble from their blocks
   of rows of `A` is the one product `A · B` of the whole arrays. Row `768 o + r` of `A` is row `r` of device `o`'s
   block, and a row of a product depends on that row of the left factor only. -/
module

public import proofs.«01_k».proof.Proof.Slots
public import proofs.«01_k».proof.Proof.Gen.ReferenceIdeal
public import Idealize.ShloMosaic.Lib.KernelVsHost
public import Idealize.ShloMosaic.Lib.StackMember
public import Idealize.ShloMosaic.Lib.Layout

@[expose] public section

noncomputable section

namespace Cert.Gather

open Cert.KernelIdeal Cert.KernelIdeal.Gen
open Idealize.ShloMosaic Idealize.ShloMosaic.ValueIdx
open scoped BigOperators

/-- One block of 768 rows of the product, element by element: a sum of 384 products. -/
theorem rows_apply (x : S768x384.Idx → Elt Ideal .bf16) (b : S384x768.Idx → Elt Ideal .bf16) (r : Fin 768) (l : Fin 768) :
    rows (F := Ideal) x b (ix2 r l) = ∑ k : Fin 384, (x (ix2 r k) * b (ix2 k l) : EReal) := by
  unfold rows k0_pay5 k0_pay3 k0_pay2 k0_pay1
  simp only [shapeCast_self, shapeCast_shapeCast]
  rw [matmul_zero_eq_dotGeneral]
  exact StackMember.dotGeneral_plain_apply (φ₁ := .bf16) (φ₂ := .bf16) none x b r l

/-- The reference's product, element by element. -/
theorem whole_apply (A : Cert.ReferenceIdeal.S3072x384.Idx → Elt Ideal .bf16) (b : S384x768.Idx → Elt Ideal .bf16) (r : Fin 3072) (l : Fin 768) :
    (truncf .bf16 (Host.dotGeneral (F := Ideal) (φ₁ := .bf16) (φ₂ := .bf16) Cert.ReferenceIdeal.dot_S3072x384_S384x768_S3072x768_1_0_0_1_n_n none A b)
      Cert.ReferenceIdeal.Gen.bitsLt_bf16_f32) (ix2 r l) = ∑ k : Fin 384, (A (ix2 r k) * b (ix2 k l) : EReal) :=
  StackMember.dotGeneral_plain_apply (φ₁ := .bf16) (φ₂ := .bf16) none A b r l

/-- The product assembled from the devices' blocks of rows of `A` is the product of the whole `A`. -/
theorem outG_blocks (A : Cert.ReferenceIdeal.S3072x384.Idx → Elt Ideal .bf16) (b : S384x768.Idx → Elt Ideal .bf16) :
    outG (F := Ideal) (fun c => Layout.block ⟨2, ![768, 384]⟩ ⟨2, ![3072, 384]⟩ 0 4 c A) b
      = truncf .bf16 (Host.dotGeneral (F := Ideal) (φ₁ := .bf16) (φ₂ := .bf16) Cert.ReferenceIdeal.dot_S3072x384_S384x768_S3072x768_1_0_0_1_n_n none A b)
          Cert.ReferenceIdeal.Gen.bitsLt_bf16_f32 := by
  funext i
  rw [eq_ix2 i]
  refine Eq.trans ?_ (whole_apply A b (i 0) (i 1)).symm
  unfold outG
  refine (rows_apply _ _ _ _).trans (Finset.sum_congr rfl fun k _ => ?_)
  refine congrArg (fun z : EReal => z * b (ix2 k (i 1))) ?_
  refine (Layout.block_apply _ _ _ _).trans (congrArg A (funext fun a => Fin.ext ?_))
  match a with
  | ⟨0, _⟩ => exact Nat.div_add_mod' (i 0).val 768
  | ⟨1, _⟩ => rfl

end Cert.Gather

end
-- ==== Proof.Same.lean ====
/- The program `Kernel` and its idealization `KernelIdeal` are the same program: no operation was replaced, so the one
   text was printed twice. What is proved of the second for any float values is therefore true of the first. -/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Gather

open Idealize.ShloMosaic Idealize.SL.Sem

variable {F : FTy → Type} [FloatOps F]

/-- The two kernels' body tables are one. -/
theorem defs₀_eq : Cert.Kernel.defs₀ (F := F) = Cert.KernelIdeal.defs₀ (F := F) := by
  unfold Cert.Kernel.defs₀ Cert.KernelIdeal.defs₀
  congr 1
  funext l x
  fin_cases l
  rfl

/-- The two programs' body tables are one. -/
theorem defs_eq : Cert.Kernel.defs (F := F) = Cert.KernelIdeal.defs (F := F) := by
  unfold Cert.Kernel.defs Cert.KernelIdeal.defs
  rw [defs₀_eq]
  rfl

/-- The two programs' @main are one. -/
theorem main_eq : Cert.Kernel.main (F := F) = Cert.KernelIdeal.main (F := F) := rfl

end Cert.Gather

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Final
public import proofs.«01_k».proof.Proof.Value
public import proofs.«01_k».proof.Proof.Same
public import Idealize.ShloMosaic.Lib.Quiescent

@[expose] public section

noncomputable section

namespace Cert.Proof

open Idealize.ShloMosaic Idealize.ShloMosaic.TcCoe Idealize.SL.Sem

/-- The idealized kernel runs, keeps its arguments and ends with every counter at zero. -/
theorem frame_ideal : Cert.quiescent_KernelIdeal (hKernelIdeal := Cert.KernelIdeal.Gen.facts) := fun m g _ =>
  (θ_run _ _ _).mono (fun _ h => ⟨fun c => (h.1 c).2, h.2⟩) (Cert.Gather.run (F := Ideal) m g)

/-- So does the kernel at bit patterns: it is the same program, and the run was proved for any float values. -/
theorem frame_kernel : Cert.quiescent_Kernel (hKernel := Cert.Kernel.Gen.facts) := fun m g _ => by
  rw [Cert.Gather.defs_eq, Cert.Gather.main_eq]
  exact (θ_run _ _ _).mono (fun _ h => ⟨fun c => (h.1 c).2, h.2⟩) (Cert.Gather.run (F := Bits) m g)

/-- The reference runs and keeps its arguments; it has no counter. -/
theorem frame_reference : Cert.quiescent_ReferenceIdeal (hReferenceIdeal := Cert.ReferenceIdeal.Gen.facts) := fun m g _ =>
  (θ_run _ _ _).mono (fun r h => ⟨fun c => (h c).2, sem_eq_zero_of_no_sems rfl r.2⟩)
    (Cert.ReferenceIdeal.Value.run (F := Ideal) m g)

/-- The value: on every device the idealized kernel's result is the reference's product. -/
theorem value : Cert.algebraic_KernelIdeal_ReferenceIdeal (hKernelIdeal := Cert.KernelIdeal.Gen.facts)
    (hReferenceIdeal := Cert.ReferenceIdeal.Gen.facts) := fun m g m' g' _ hm => by
  refine ⟨_, (θ_run _ _ _).mono (fun _ h c => ⟨((h.1 c).1).trans ?_, (h.1 c).2⟩) (Cert.Gather.run (F := Ideal) m g),
    (θ_run _ _ _).mono (fun _ h => h 0) (Cert.ReferenceIdeal.Value.run (F := Ideal) m' g')⟩
  unfold Cert.Gather.outAt
  rw [← Cert.Gather.outG_blocks]
  refine congrArg₂ Cert.Gather.outG (funext fun d => ?_) ?_
  · exact (Cert.Gather.xA_eq m d).trans (hm d).1
  · exact (Cert.Gather.xB_eq m c).trans (hm c).2

/-- The certificate's claim. -/
theorem claim : Cert.Claim := ⟨Cert.Kernel.Gen.facts, Cert.KernelIdeal.Gen.facts, Cert.ReferenceIdeal.Gen.facts,
  frame_kernel, frame_ideal, frame_reference, trivial, value⟩

end Cert.Proof

end
